-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_vocabulary [hPre_finite_and_in_vocabulary : Cert.Pre_finite_and_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_and_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_vocabulary [hPre_finite_and_in_vocabulary : Cert.Pre_finite_and_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_and_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_in_vocabulary [hKernelIdeal : Cert.KernelIdeal.Facts] [hPre_finite_and_in_vocabulary : Cert.Pre_finite_and_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_vocabulary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_in_vocabulary [hReferenceIdeal : Cert.ReferenceIdeal.Facts] [hPre_finite_and_in_vocabulary : Cert.Pre_finite_and_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_and_in_vocabulary [hKernelIdeal : Cert.KernelIdeal.Facts] [hReferenceIdeal : Cert.ReferenceIdeal.Facts] [hPre_finite_and_in_vocabulary : Cert.Pre_finite_and_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_vocabulary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_in_vocabulary : Cert.Pre_finite_and_in_vocabulary.Facts),
    quiescent_Kernel (hKernel := hKernel)
    ∧ quiescent_KernelIdeal (hKernelIdeal := hKernelIdeal)
    ∧ quiescent_KernelIdeal_pre_finite_and_in_vocabulary (hKernelIdeal := hKernelIdeal) (hPre_finite_and_in_vocabulary := hPre_finite_and_in_vocabulary)
    ∧ quiescent_ReferenceIdeal (hReferenceIdeal := hReferenceIdeal)
    ∧ quiescent_ReferenceIdeal_pre_finite_and_in_vocabulary (hReferenceIdeal := hReferenceIdeal) (hPre_finite_and_in_vocabulary := hPre_finite_and_in_vocabulary)
    ∧ preserves_Kernel_KernelIdeal
    ∧ algebraic_KernelIdeal_ReferenceIdeal_pre_finite_and_in_vocabulary (hKernelIdeal := hKernelIdeal) (hReferenceIdeal := hReferenceIdeal) (hPre_finite_and_in_vocabulary := hPre_finite_and_in_vocabulary)
-- ==== Pre_finite_and_in_vocabulary.lean ====
abbrev S2x256x5120 : Shape := ⟨3, ![2, 256, 5120]⟩
abbrev S3968x5120 : Shape := ⟨2, ![3968, 5120]⟩
abbrev S3968x1 : Shape := ⟨2, ![3968, 1]⟩
abbrev S2x256 : Shape := ⟨2, ![2, 256]⟩
abbrev S_ : Shape := ⟨0, ![]⟩

class Facts : Prop where
  bitsLt_bf16_f32 : FTy.bits .bf16 < FTy.bits .f32
  bcast_S_S2x256x5120 : S_.BroadcastsInDim S2x256x5120 (![] : Fin 0 → Fin S2x256x5120.rank)
  bcast_S_S2x256 : S_.BroadcastsInDim S2x256 (![] : Fin 0 → Fin S2x256.rank)

variable [Facts]

def fn {F : FTy → Type} [FloatOps F] (main_arg0 : FVec F S2x256x5120 .bf16) (main_arg1 : FVec F S3968x5120 .fp8e4m3) (main_arg2 : FVec F S3968x1 .f32) (main_arg3 : IVec S2x256 32) : IVec S2x256x5120 1 × IVec S2x256 1 :=
  let main_v0 : FVec F S2x256x5120 .f32 := (extf .f32 · bitsLt_bf16_f32) main_arg0
  let main_v1 : FVec F S2x256x5120 .f32 := Host.absf main_v0
  let main_cst : FVec F S_ .f32 := constant S_ .f32 0x7F7F0000#32
  let main_v2 : FVec F S2x256x5120 .f32 := broadcastInDim S2x256x5120 ![] bcast_S_S2x256x5120 main_cst
  let main_v3 : IVec S2x256x5120 1 := cmpf .ole main_v1 main_v2
  let main_c : IVec S_ 32 := constantI S_ 32 0#32
  let main_v4 : IVec S2x256 32 := broadcastInDim S2x256 ![] bcast_S_S2x256 main_c
  let main_v5 : IVec S2x256 1 := cmpi .sge main_arg3 main_v4
  let main_c_0 : IVec S_ 32 := constantI S_ 32 3968#32
  let main_v6 : IVec S2x256 32 := broadcastInDim S2x256 ![] bcast_S_S2x256 main_c_0
  let main_v7 : IVec S2x256 1 := cmpi .slt main_arg3 main_v6
  let main_v8 : IVec S2x256 1 := andi main_v5 main_v7
  (main_v3, main_v8)
-- ==== Kernel.lean ====
abbrev S2x256x5120 : Shape := ⟨3, ![2, 256, 5120]⟩
abbrev S3968x5120 : Shape := ⟨2, ![3968, 5120]⟩
abbrev S3968x1 : Shape := ⟨2, ![3968, 1]⟩
abbrev S2x256 : Shape := ⟨2, ![2, 256]⟩
abbrev S512x5120 : Shape := ⟨2, ![512, 5120]⟩
abbrev S1x512 : Shape := ⟨2, ![1, 512]⟩
abbrev S992x5120 : Shape := ⟨2, ![992, 5120]⟩
abbrev S992x1 : Shape := ⟨2, ![992, 1]⟩
abbrev S64x5120 : Shape := ⟨2, ![64, 5120]⟩
abbrev S64 : Shape := ⟨1, ![64]⟩
abbrev S64x1 : Shape := ⟨2, ![64, 1]⟩
abbrev S64x256 : Shape := ⟨2, ![64, 256]⟩
abbrev S64x128 : Shape := ⟨2, ![64, 128]⟩
abbrev S128x64 : Shape := ⟨2, ![128, 64]⟩
abbrev S1x64 : Shape := ⟨2, ![1, 64]⟩
abbrev S992x512 : Shape := ⟨2, ![992, 512]⟩
abbrev S512 : Shape := ⟨1, ![512]⟩
abbrev S2x256x1 : Shape := ⟨3, ![2, 256, 1]⟩

abbrev nBuf : Space → Nat
  | .hbm => 12
  | .vmem => 12
  | .smem => 0
  | _ => 0

abbrev bufTy : (tb : Table) → Fin (tcTables nBuf tb) → BufTy
  | .hbm, ⟨0, _⟩ => ⟨S2x256x5120, .bf16⟩
  | .hbm, ⟨1, _⟩ => ⟨S3968x5120, .fp8e4m3⟩
  | .hbm, ⟨2, _⟩ => ⟨S3968x1, .f32⟩
  | .hbm, ⟨3, _⟩ => ⟨S2x256, .i32⟩
  | .hbm, ⟨4, _⟩ => ⟨S512x5120, .bf16⟩
  | .hbm, ⟨5, _⟩ => ⟨S1x512, .i32⟩
  | .hbm, ⟨6, _⟩ => ⟨S1x512, .f32⟩
  | .hbm, ⟨7, _⟩ => ⟨S512x5120, .fp8e4m3⟩
  | .hbm, ⟨8, _⟩ => ⟨S1x512, .f32⟩
  | .hbm, ⟨9, _⟩ => ⟨S2x256, .f32⟩
  | .hbm, ⟨10, _⟩ => ⟨S2x256x5120, .fp8e4m3⟩
  | .hbm, ⟨11, _⟩ => ⟨S2x256x1, .f32⟩
  | .local _ .vmem, ⟨0, _⟩ => ⟨S512x5120, .bf16⟩
  | .local _ .vmem, ⟨1, _⟩ => ⟨S992x5120, .fp8e4m3⟩
  | .local _ .vmem, ⟨2, _⟩ => ⟨S992x5120, .fp8e4m3⟩
  | .local _ .vmem, ⟨3, _⟩ => ⟨S992x1, .f32⟩
  | .local _ .vmem, ⟨4, _⟩ => ⟨S992x1, .f32⟩
  | .local _ .vmem, ⟨5, _⟩ => ⟨S1x512, .i32⟩
  | .local _ .vmem, ⟨6, _⟩ => ⟨S1x512, .f32⟩
  | .local _ .vmem, ⟨7, _⟩ => ⟨S512x5120, .fp8e4m3⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | _, _ => ⟨S2x256x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v51 : BitVec 1 := Scalar.cmpi .eq arg0 c3_i32
  let v52 : BitVec 32 := Scalar.extui v51
  let c0_i32_26 : BitVec 32 := 0#32
  let v53 : BitVec 1 := Scalar.cmpi .ne v52 c0_i32_26
  v53

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S992x5120 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S992x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2x256x5120 : Shape := ⟨3, ![2, 256, 5120]⟩
abbrev S3968x5120 : Shape := ⟨2, ![3968, 5120]⟩
abbrev S3968x1 : Shape := ⟨2, ![3968, 1]⟩
abbrev S2x256 : Shape := ⟨2, ![2, 256]⟩
abbrev S_ : Shape := ⟨0, ![]⟩
abbrev S2x256x1 : Shape := ⟨3, ![2, 256, 1]⟩
abbrev S254 : Shape := ⟨1, ![254]⟩
abbrev S1x1x254 : Shape := ⟨3, ![1, 1, 254]⟩
abbrev S2x256x254 : Shape := ⟨3, ![2, 256, 254]⟩
abbrev S512x5120 : Shape := ⟨2, ![512, 5120]⟩
abbrev S512x3968 : Shape := ⟨2, ![512, 3968]⟩
abbrev S2x256x3968 : Shape := ⟨3, ![2, 256, 3968]⟩
abbrev S3968 : Shape := ⟨1, ![3968]⟩
abbrev S1x1x3968 : Shape := ⟨3, ![1, 1, 3968]⟩
abbrev S2x256x1x1 : Shape := ⟨4, ![2, 256, 1, 1]⟩
abbrev S1 : Shape := ⟨1, ![1]⟩
abbrev S1x1x1x1 : Shape := ⟨4, ![1, 1, 1, 1]⟩

abbrev nBuf : Space → Nat
  | .hbm => 107
  | .vmem => 3
  | .smem => 0
  | _ => 0

abbrev bufTy : (tb : Table) → Fin (tcTables nBuf tb) → BufTy
  | .hbm, ⟨0, _⟩ => ⟨S2x256x5120, .bf16⟩
  | .hbm, ⟨1, _⟩ => ⟨S3968x5120, .fp8e4m3⟩
  | .hbm, ⟨2, _⟩ => ⟨S3968x1, .f32⟩
  | .hbm, ⟨3, _⟩ => ⟨S2x256, .i32⟩
  | .hbm, ⟨4, _⟩ => ⟨S2x256x5120, .f32⟩
  | .hbm, ⟨5, _⟩ => ⟨S2x256x5120, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S254, .f32⟩
  | .hbm, ⟨13, _⟩ => ⟨S_, .f32⟩
  | .hbm, ⟨14, _⟩ => ⟨S254, .f32⟩
  | .hbm, ⟨15, _⟩ => ⟨S254, .f32⟩
  | .hbm, ⟨16, _⟩ => ⟨S_, .f32⟩
  | .hbm, ⟨17, _⟩ => ⟨S254, .f32⟩
  | .hbm, ⟨18, _⟩ => ⟨S254, .f32⟩
  | .hbm, ⟨19, _⟩ => ⟨S1x1x254, .f32⟩
  | .hbm, ⟨20, _⟩ => ⟨S2x256x254, .f32⟩
  | .hbm, ⟨21, _⟩ => ⟨S2x256x254, .f32⟩
  | .hbm, ⟨22, _⟩ => ⟨S2x256x254, .i1⟩
  | .hbm, ⟨23, _⟩ => ⟨S_, .f32⟩
  | .hbm, ⟨24, _⟩ => ⟨S_, .f32⟩
  | .hbm, ⟨25, _⟩ => ⟨S2x256x254, .f32⟩
  | .hbm, ⟨26, _⟩ => ⟨S2x256x254, .f32⟩
  | .hbm, ⟨27, _⟩ => ⟨S2x256x254, .f32⟩
  | .hbm, ⟨28, _⟩ => ⟨S_, .f32⟩
  | .hbm, ⟨29, _⟩ => ⟨S2x256, .f32⟩
  | .hbm, ⟨30, _⟩ => ⟨S2x256x1, .f32⟩
  | .hbm, ⟨31, _⟩ => ⟨S_, .f32⟩
  | .hbm, ⟨32, _⟩ => ⟨S2x256x1, .f32⟩
  | .hbm, ⟨33, _⟩ => ⟨S2x256x1, .i1⟩
  | .hbm, ⟨34, _⟩ => ⟨S_, .f32⟩
  | .hbm, ⟨35, _⟩ => ⟨S2x256x1, .f32⟩
  | .hbm, ⟨36, _⟩ => ⟨S2x256x1, .f32⟩
  | .hbm, ⟨37, _⟩ => ⟨S_, .f32⟩
  | .hbm, ⟨38, _⟩ => ⟨S_, .f32⟩
  | .hbm, ⟨39, _⟩ => ⟨S2x256x1, .f32⟩
  | .hbm, ⟨40, _⟩ => ⟨S2x256x1, .f32⟩
  | .hbm, ⟨41, _⟩ => ⟨S_, .f32⟩
  | .hbm, ⟨42, _⟩ => ⟨S2x256x1, .f32⟩
  | .hbm, ⟨43, _⟩ => ⟨S2x256x1, .f32⟩
  | .hbm, ⟨44, _⟩ => ⟨S2x256x1, .f32⟩
  | .hbm, ⟨45, _⟩ => ⟨S_, .f32⟩
  | .hbm, ⟨46, _⟩ => ⟨S2x256x1, .f32⟩
  | .hbm, ⟨47, _⟩ => ⟨S2x256x1, .f32⟩
  | .hbm, ⟨48, _⟩ => ⟨S2x256x5120, .f32⟩
  | .hbm, ⟨49, _⟩ => ⟨S2x256x5120, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S2x256x5120, .f32⟩
  | .hbm, ⟨54, _⟩ => ⟨S2x256x5120, .f32⟩
  | .hbm, ⟨55, _⟩ => ⟨S_, .f32⟩
  | .hbm, ⟨56, _⟩ => ⟨S2x256x5120, .f32⟩
  | .hbm, ⟨57, _⟩ => ⟨S2x256x5120, .f32⟩
  | .hbm, ⟨58, _⟩ => ⟨S2x256x5120, .fp8e4m3⟩
  | .hbm, ⟨59, _⟩ => ⟨S512x5120, .fp8e4m3⟩
  | .hbm, ⟨60, _⟩ => ⟨S512x3968, .f32⟩
  | .hbm, ⟨61, _⟩ => ⟨S2x256x3968, .f32⟩
  | .hbm, ⟨62, _⟩ => ⟨S2x256x3968, .f32⟩
  | .hbm, ⟨63, _⟩ => ⟨S2x256x3968, .f32⟩
  | .hbm, ⟨64, _⟩ => ⟨S3968, .f32⟩
  | .hbm, ⟨65, _⟩ => ⟨S1x1x3968, .f32⟩
  | .hbm, ⟨66, _⟩ => ⟨S2x256x3968, .f32⟩
  | .hbm, ⟨67, _⟩ => ⟨S2x256x3968, .f32⟩
  | .hbm, ⟨68, _⟩ => ⟨S_, .f32⟩
  | .hbm, ⟨69, _⟩ => ⟨S2x256, .f32⟩
  | .hbm, ⟨70, _⟩ => ⟨S2x256x1, .f32⟩
  | .hbm, ⟨71, _⟩ => ⟨S2x256x3968, .f32⟩
  | .hbm, ⟨72, _⟩ => ⟨S2x256x3968, .f32⟩
  | .hbm, ⟨73, _⟩ => ⟨S2x256x3968, .f32⟩
  | .hbm, ⟨74, _⟩ => ⟨S_, .f32⟩
  | .hbm, ⟨75, _⟩ => ⟨S2x256, .f32⟩
  | .hbm, ⟨76, _⟩ => ⟨S2x256, .f32⟩
  | .hbm, ⟨77, _⟩ => ⟨S2x256, .f32⟩
  | .hbm, ⟨78, _⟩ => ⟨S2x256, .f32⟩
  | .hbm, ⟨79, _⟩ => ⟨S2x256x1, .i32⟩
  | .hbm, ⟨80, _⟩ => ⟨S_, .i32⟩
  | .hbm, ⟨81, _⟩ => ⟨S2x256x1, .i32⟩
  | .hbm, ⟨82, _⟩ => ⟨S2x256x1, .i1⟩
  | .hbm, ⟨83, _⟩ => ⟨S_, .i32⟩
  | .hbm, ⟨84, _⟩ => ⟨S2x256x1, .i32⟩
  | .hbm, ⟨85, _⟩ => ⟨S2x256x1, .i32⟩
  | .hbm, ⟨86, _⟩ => ⟨S2x256x1, .i32⟩
  | .hbm, ⟨87, _⟩ => ⟨S2x256x1x1, .i32⟩
  | .hbm, ⟨88, _⟩ => ⟨S1, .i32⟩
  | .hbm, ⟨89, _⟩ => ⟨S_, .i32⟩
  | .hbm, ⟨90, _⟩ => ⟨S2x256x1x1, .i32⟩
  | .hbm, ⟨91, _⟩ => ⟨S2x256x1x1, .i1⟩
  | .hbm, ⟨92, _⟩ => ⟨S1x1x1x1, .i32⟩
  | .hbm, ⟨93, _⟩ => ⟨S2x256x1x1, .i32⟩
  | .hbm, ⟨94, _⟩ => ⟨S2x256x1x1, .i1⟩
  | .hbm, ⟨95, _⟩ => ⟨S2x256x1x1, .i1⟩
  | .hbm, ⟨96, _⟩ => ⟨S_, .i1⟩
  | .hbm, ⟨97, _⟩ => ⟨S2x256x1, .i1⟩
  | .hbm, ⟨98, _⟩ => ⟨S2x256x1, .f32⟩
  | .hbm, ⟨99, _⟩ => ⟨S_, .f32⟩
  | .hbm, ⟨100, _⟩ => ⟨S2x256x1, .f32⟩
  | .hbm, ⟨101, _⟩ => ⟨S2x256x1, .f32⟩
  | .hbm, ⟨102, _⟩ => ⟨S2x256, .f32⟩
  | .hbm, ⟨103, _⟩ => ⟨S2x256, .f32⟩
  | .hbm, ⟨104, _⟩ => ⟨S_, .f32⟩
  | .hbm, ⟨105, _⟩ => ⟨S2x256, .f32⟩
  | .hbm, ⟨106, _⟩ => ⟨S2x256, .f32⟩
  | .local _ .vmem, ⟨0, _⟩ => ⟨S512x5120, .fp8e4m3⟩
  | .local _ .vmem, ⟨1, _⟩ => ⟨S3968x5120, .fp8e4m3⟩
  | .local _ .vmem, ⟨2, _⟩ => ⟨S512x3968, .f32⟩
  | _, _ => ⟨S2x256x5120, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_cst_7 : Ref sig .tc := ⟨.hbm, 37, rfl⟩
abbrev main_call1_v0 : Ref sig .tc := ⟨.hbm, 38, rfl⟩
abbrev main_call1_v1 : Ref sig .tc := ⟨.hbm, 39, rfl⟩
abbrev main_v22 : Ref sig .tc := ⟨.hbm, 40, rfl⟩
abbrev main_cst_8 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_9 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_10 : Ref sig .tc := ⟨.hbm, 50, rfl⟩
abbrev main_cst_11 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_12 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_13 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_call3_c : Ref sig .tc := ⟨.hbm, 80, rfl⟩
abbrev main_call3_v0 : Ref sig .tc := ⟨.hbm, 81, rfl⟩
abbrev main_call3_v1 : Ref sig .tc := ⟨.hbm, 82, rfl⟩
abbrev main_call3_c_0 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_c_1 : Ref sig .tc := ⟨.hbm, 88, rfl⟩
abbrev main_call3_c_2 : Ref sig .tc := ⟨.hbm, 89, rfl⟩
abbrev main_call3_v6 : Ref sig .tc := ⟨.hbm, 90, rfl⟩
abbrev main_call3_v7 : Ref sig .tc := ⟨.hbm, 91, rfl⟩
abbrev main_call3_v8 : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_c_3 : Ref sig .tc := ⟨.hbm, 96, rfl⟩
abbrev main_call3_v12 : Ref sig .tc := ⟨.hbm, 97, rfl⟩
abbrev main_call3_v13 : Ref sig .tc := ⟨.hbm, 98, rfl⟩
abbrev main_call3_cst : Ref sig .tc := ⟨.hbm, 99, rfl⟩
abbrev main_call3_v14 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_cst_14 : Ref sig .tc := ⟨.hbm, 104, rfl⟩
abbrev main_v54 : Ref sig .tc := ⟨.hbm, 105, rfl⟩
abbrev main_v55 : Ref sig .tc := ⟨.hbm, 106, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S512x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3968x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x3968 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.KernelIdealRuns.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WholeRead
public import Idealize.ShloMosaic.Lib.Writes
public import Idealize.ShloMosaic.Lib.ValueIdx

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! ## What one grid point computes -/

/-- The codes of one chunk of 64 rows. -/
def chunkCodes (x : Vec F S64x5120 .bf16) : FVec F S64x5120 .fp8e4m3 := k0_pay9 (k0_pay8 x)

/-- The scales of one chunk of 64 rows, along the lanes. -/
def chunkScales (x : Vec F S64x5120 .bf16) : FVec F S1x64 .f32 := k0_pay10 (k0_pay7 x)

/-- Rows `64 r` to `64 r + 63` of the activations. -/
def chunk (x : Vec F S512x5120 .bf16) (r : Fin 8) : Vec F S64x5120 .bf16 :=
  fun y => x (ix2 (n0 := 512) (n1 := 5120) ⟨64 * r.val + (y 0).val, by have := idx2_lt0 (n0 := 64) (n1 := 5120) y; omega⟩ (y 1))

/-- All the codes: each row is coded in its chunk. -/
def codes (x : Vec F S512x5120 .bf16) : FVec F S512x5120 .fp8e4m3 :=
  fun y => chunkCodes (chunk x ⟨(y 0).val / 64, by have := idx2_lt0 (n0 := 512) (n1 := 5120) y; omega⟩)
    (ix2 (n0 := 64) (n1 := 5120) ⟨(y 0).val % 64, by omega⟩ (y 1))

/-- All the scales: each row's is computed in its chunk. -/
def scales (x : Vec F S512x5120 .bf16) : FVec F S1x512 .f32 :=
  fun y => chunkScales (chunk x ⟨(y 1).val / 64, by have := idx2_lt1 (n0 := 1) (n1 := 512) y; omega⟩)
    (ix2 (n0 := 1) (n1 := 64) 0 ⟨(y 1).val % 64, by omega⟩)

/-- The running maximum after a point. -/
def maxNext (x1 : Vec F S992x5120 .fp8e4m3) (C : Vec F S512x5120 .fp8e4m3) (X : Vec F S1x512 .f32) (x2 : Vec F S992x1 .f32) (a : Vec F S1x512 .f32) :
    FVec F S1x512 .f32 := k0_pay1 (k0_pay62 x1 C X x2 a)

/-- The running sum after a point. -/
def sumNext (x1 : Vec F S992x5120 .fp8e4m3) (C : Vec F S512x5120 .fp8e4m3) (X : Vec F S1x512 .f32) (x2 : Vec F S992x1 .f32) (a b : Vec F S1x512 .f32) :
    FVec F S1x512 .f32 := k0_pay63 x1 C X x2 a b

/-- The label's logit so far, after a point. -/
def labNext (i : grid0.Coords) (x1 : Vec F S992x5120 .fp8e4m3) (C : Vec F S512x5120 .fp8e4m3) (X : Vec F S1x512 .f32) (x2 : Vec F S992x1 .f32) (x3 : Vec F S1x512 .i32)
    (d : Vec F S1x512 .f32) : FVec F S1x512 .f32 := k0_pay2 (k0_pay60 x1 C X x2) (k0_pay61 i) d x3

/-- A load of 64 rows of the activations is their chunk. -/
theorem load_chunk (r : Fin 8) {arg1 : Memref sig .tc .vmem S512x5120 .bf16} (harg1 : arg1.IsWhole) (x0 : Vec F S512x5120 .bf16) (off : Fin 2 → ℕ)
    (inb : ∀ a, off a + S64x5120.size a ≤ S512x5120.size a) (hoff : off = ![64 * r.val, 0]) :
    View.readAt (Elt F) arg1.view (Rect.unit (s := S512x5120) off S64x5120.size inb).toLoadRect (harg1.unread x0) = chunk x0 r := by
  subst hoff
  funext z
  rw [Memref.IsWhole.readAt_unread]
  refine congrArg x0 ?_
  rw [eq_ix2 (n0 := 512) (n1 := 5120) ((Rect.unit (s := S512x5120) ![64 * r.val, 0] S64x5120.size inb).toLoadRect.idx z)]
  congr 1
  · apply Fin.ext; show 64 * r.val + 1 * (z 0).val = 64 * r.val + (z 0).val; omega
  · apply Fin.ext; show 0 + 1 * (z 1).val = (z 1).val; omega

/-- A chunk's codes are its rows of all the codes. -/
theorem codes_piece (r : Fin 8) (x0 : Vec F S512x5120 .bf16) (off : Fin 2 → ℕ)
    (inb : ∀ a, off a + S64x5120.size a ≤ S512x5120.size a) (hoff : off = ![64 * r.val, 0]) (p : FVec F S64x5120 .fp8e4m3) (hp : p = chunkCodes (chunk x0 r))
    (z : (Rect.unit (s := S512x5120) off S64x5120.size inb).shape.Idx) :
    p z = codes x0 ((Rect.unit (s := S512x5120) off S64x5120.size inb).emb z) := by
  subst hoff hp
  have hz : (z 0).val < 64 := (z 0).isLt
  have h0 : (((Rect.unit (s := S512x5120) ![64 * r.val, 0] S64x5120.size inb).emb z) 0).val = 64 * r.val + (z 0).val := by
    show 64 * r.val + 1 * (z 0).val = _; omega
  have h1 : (((Rect.unit (s := S512x5120) ![64 * r.val, 0] S64x5120.size inb).emb z) 1).val = (z 1).val := by
    show 0 + 1 * (z 1).val = _; omega
  unfold codes
  have e1 : (⟨(((Rect.unit (s := S512x5120) ![64 * r.val, 0] S64x5120.size inb).emb z) 0).val / 64, by rw [h0]; omega⟩ : Fin 8) = r := by
    apply Fin.ext; show _ / 64 = _; rw [h0]; omega
  rw [e1]
  refine congrArg (chunkCodes (chunk x0 r)) ?_
  rw [eq_ix2 (n0 := 64) (n1 := 5120) z]
  congr 1
  · apply Fin.ext; show (z 0).val = _ % 64; rw [← eq_ix2 (n0 := 64) (n1 := 5120) z, h0]; omega
  · apply Fin.ext; show (z 1).val = _; rw [← eq_ix2 (n0 := 64) (n1 := 5120) z]; exact h1.symm

/-- A chunk's scales are its lanes of all the scales. -/
theorem scales_piece (r : Fin 8) (x0 : Vec F S512x5120 .bf16) (off : Fin 2 → ℕ)
    (inb : ∀ a, off a + S1x64.size a ≤ S1x512.size a) (hoff : off = ![0, 64 * r.val]) (p : FVec F S1x64 .f32) (hp : p = chunkScales (chunk x0 r))
    (z : (Rect.unit (s := S1x512) off S1x64.size inb).shape.Idx) :
    p z = scales x0 ((Rect.unit (s := S1x512) off S1x64.size inb).emb z) := by
  subst hoff hp
  have hz : (z 1).val < 64 := (z 1).isLt
  have hz0 : (z 0).val < 1 := (z 0).isLt
  have h1 : (((Rect.unit (s := S1x512) ![0, 64 * r.val] S1x64.size inb).emb z) 1).val = 64 * r.val + (z 1).val := by
    show 64 * r.val + 1 * (z 1).val = _; omega
  unfold scales
  have e1 : (⟨(((Rect.unit (s := S1x512) ![0, 64 * r.val] S1x64.size inb).emb z) 1).val / 64, by rw [h1]; omega⟩ : Fin 8) = r := by
    apply Fin.ext; show _ / 64 = _; rw [h1]; omega
  rw [e1]
  refine congrArg (chunkScales (chunk x0 r)) ?_
  rw [eq_ix2 (n0 := 1) (n1 := 64) z]
  congr 1
  · apply Fin.ext; show (z 0).val = 0; omega
  · apply Fin.ext; show (z 1).val = _ % 64; rw [← eq_ix2 (n0 := 1) (n1 := 64) z, h1]; omega

/-- Eight stores, each of one chunk's codes, leave all the codes. -/
theorem read_codes (v : View sig .tc .vmem S512x5120 .fp8e4m3) (f : v.ty.Contents (Elt F)) (x0 : Vec F S512x5120 .bf16) (p : Fin 8 → FVec F S64x5120 .fp8e4m3)
    (hp : ∀ r, p r = chunkCodes (chunk x0 r)) :
    v.read (Elt F) (v.writes (Elt F) f
        [⟨Rect.unit ![448, 0] S64x5120.size inb_S512x5120_S64x5120_448_0, p 7⟩, ⟨Rect.unit ![384, 0] S64x5120.size inb_S512x5120_S64x5120_384_0, p 6⟩,
          ⟨Rect.unit ![320, 0] S64x5120.size inb_S512x5120_S64x5120_320_0, p 5⟩, ⟨Rect.unit ![256, 0] S64x5120.size inb_S512x5120_S64x5120_256_0, p 4⟩,
          ⟨Rect.unit ![192, 0] S64x5120.size inb_S512x5120_S64x5120_192_0, p 3⟩, ⟨Rect.unit ![128, 0] S64x5120.size inb_S512x5120_S64x5120_128_0, p 2⟩,
          ⟨Rect.unit ![64, 0] S64x5120.size inb_S512x5120_S64x5120_64_0, p 1⟩, ⟨Rect.unit ![0, 0] S64x5120.size inb_S512x5120_S64x5120_0_0, p 0⟩]) = codes x0 := by
  funext y
  refine View.read_writes_apply_of_pieces v f (codes x0) _ ?_ y (View.cover_of_tiledL (s := S512x5120) _ ![64, 5120] (by sl_kernel_rfl) y)
  intro q hq
  simp only [List.mem_cons, List.not_mem_nil, or_false] at hq
  rcases hq with rfl | rfl | rfl | rfl | rfl | rfl | rfl | rfl
  · exact codes_piece 7 x0 _ inb_S512x5120_S64x5120_448_0 rfl _ (hp 7)
  · exact codes_piece 6 x0 _ inb_S512x5120_S64x5120_384_0 rfl _ (hp 6)
  · exact codes_piece 5 x0 _ inb_S512x5120_S64x5120_320_0 rfl _ (hp 5)
  · exact codes_piece 4 x0 _ inb_S512x5120_S64x5120_256_0 rfl _ (hp 4)
  · exact codes_piece 3 x0 _ inb_S512x5120_S64x5120_192_0 rfl _ (hp 3)
  · exact codes_piece 2 x0 _ inb_S512x5120_S64x5120_128_0 rfl _ (hp 2)
  · exact codes_piece 1 x0 _ inb_S512x5120_S64x5120_64_0 rfl _ (hp 1)
  · exact codes_piece 0 x0 _ inb_S512x5120_S64x5120_0_0 rfl _ (hp 0)

/-- Eight stores, each of one chunk's scales, leave all the scales. -/
theorem read_scales (v : View sig .tc .vmem S1x512 .f32) (f : v.ty.Contents (Elt F)) (x0 : Vec F S512x5120 .bf16) (p : Fin 8 → FVec F S1x64 .f32)
    (hp : ∀ r, p r = chunkScales (chunk x0 r)) :
    v.read (Elt F) (v.writes (Elt F) f
        [⟨Rect.unit ![0, 448] S1x64.size inb_S1x512_S1x64_0_448, p 7⟩, ⟨Rect.unit ![0, 384] S1x64.size inb_S1x512_S1x64_0_384, p 6⟩,
          ⟨Rect.unit ![0, 320] S1x64.size inb_S1x512_S1x64_0_320, p 5⟩, ⟨Rect.unit ![0, 256] S1x64.size inb_S1x512_S1x64_0_256, p 4⟩,
          ⟨Rect.unit ![0, 192] S1x64.size inb_S1x512_S1x64_0_192, p 3⟩, ⟨Rect.unit ![0, 128] S1x64.size inb_S1x512_S1x64_0_128, p 2⟩,
          ⟨Rect.unit ![0, 64] S1x64.size inb_S1x512_S1x64_0_64, p 1⟩, ⟨Rect.unit ![0, 0] S1x64.size inb_S1x512_S1x64_0_0, p 0⟩]) = scales x0 := by
  funext y
  refine View.read_writes_apply_of_pieces v f (scales x0) _ ?_ y (View.cover_of_tiledL (s := S1x512) _ ![1, 64] (by sl_kernel_rfl) y)
  intro q hq
  simp only [List.mem_cons, List.not_mem_nil, or_false] at hq
  rcases hq with rfl | rfl | rfl | rfl | rfl | rfl | rfl | rfl
  · exact scales_piece 7 x0 _ inb_S1x512_S1x64_0_448 rfl _ (hp 7)
  · exact scales_piece 6 x0 _ inb_S1x512_S1x64_0_384 rfl _ (hp 6)
  · exact scales_piece 5 x0 _ inb_S1x512_S1x64_0_320 rfl _ (hp 5)
  · exact scales_piece 4 x0 _ inb_S1x512_S1x64_0_256 rfl _ (hp 4)
  · exact scales_piece 3 x0 _ inb_S1x512_S1x64_0_192 rfl _ (hp 3)
  · exact scales_piece 2 x0 _ inb_S1x512_S1x64_0_128 rfl _ (hp 2)
  · exact scales_piece 1 x0 _ inb_S1x512_S1x64_0_64 rfl _ (hp 1)
  · exact scales_piece 0 x0 _ inb_S1x512_S1x64_0_0 rfl _ (hp 0)

section
variable (c : Dev nD) (i : grid0.Coords) (arg1 : Memref sig .tc .vmem S512x5120 .bf16) (harg1 : arg1.IsWhole) (arg2 : Memref sig .tc .vmem S992x5120 .fp8e4m3) (harg2 : arg2.IsWhole) (arg3 : Memref sig .tc .vmem S992x1 .f32) (harg3 : arg3.IsWhole) (arg4 : Memref sig .tc .vmem S1x512 .i32) (harg4 : arg4.IsWhole) (arg5 : Memref sig .tc .vmem S1x512 .f32) (harg5 : arg5.IsWhole) (arg6 : Memref sig .tc .vmem S512x5120 .fp8e4m3) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole)
  (x0 : Vec F S512x5120 .bf16) (x1 : Vec F S992x5120 .fp8e4m3) (x2 : Vec F S992x1 .f32) (x3 : Vec F S1x512 .i32) (x4 : Vec F S1x512 .f32) (C : Vec F S512x5120 .fp8e4m3) (X a b d : Vec F S1x512 .f32)

include harg1 harg2 harg3 harg4 harg5 harg6 harg7 harg8 harg9 harg10

set_option maxHeartbeats 1600000 in
/-- A point that is neither the first nor the last. -/
theorem run_mid (hc0 : ¬k0_cond1 i = 1#1) (hc1 : ¬k0_cond2 i = 1#1) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare C ∗ owns (c : Thread nD τ) arg7 fullShare X ∗ owns (c : Thread nD τ) arg8 fullShare a ∗ owns (c : Thread nD τ) arg9 fullShare b ∗ owns (c : Thread nD τ) arg10 fullShare d
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare C ∗ owns (c : Thread nD τ) arg7 fullShare X ∗ owns (c : Thread nD τ) arg8 fullShare (maxNext x1 C X x2 a) ∗ owns (c : Thread nD τ) arg9 fullShare (sumNext x1 C X x2 a b) ∗ owns (c : Thread nD τ) arg10 fullShare (labNext i x1 C X x2 x3 d)) -∗ K ⟨⟩))
      ⊢ wp frame (wpE (defs₀ (F := F)) Variants.none c none) E (cc0_fp8_linear_ce i arg1 harg1 arg2 harg2 arg3 harg3 arg4 harg4 arg5 harg5 arg6 harg6 arg7 harg7 arg8 harg8 arg9 harg9 arg10 harg10) K := by
  simp only [cc0_fp8_linear_ce_eq_skeleton]; unfold cc0_fp8_linear_ce_skel
  simp only [k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1; obtain rfl := harg10.eq_unread hfs2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [HS0]
  · iexists _; isplitr; swap; · iexact HS0
    ipureintro; rw [View.read_writes_full]; delta run_mid.sl.r_1; (repeat rw [View.readAt_full]); (repeat rw [Memref.IsWhole.read_unread]); rfl
  isplitl [HS1]
  · iexists _; isplitr; swap; · iexact HS1
    ipureintro; rw [View.read_writes_full]; (repeat rw [View.readAt_full]); (repeat rw [Memref.IsWhole.read_unread]); rfl
  iexists _; isplitr; swap; · iexact HS2
  ipureintro; rw [View.read_writes_full]; delta run_mid.sl.r; (repeat rw [View.readAt_full]); (repeat rw [Memref.IsWhole.read_unread]); rfl

set_option maxHeartbeats 1600000 in
/-- The last point. -/
theorem run_last (hc0 : ¬k0_cond1 i = 1#1) (hc1 : k0_cond2 i = 1#1) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare C ∗ owns (c : Thread nD τ) arg7 fullShare X ∗ owns (c : Thread nD τ) arg8 fullShare a ∗ owns (c : Thread nD τ) arg9 fullShare b ∗ owns (c : Thread nD τ) arg10 fullShare d
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay3 (maxNext x1 C X x2 a) (sumNext x1 C X x2 a b) (labNext i x1 C X x2 x3 d)) ∗ owns (c : Thread nD τ) arg6 fullShare C ∗ owns (c : Thread nD τ) arg7 fullShare X ∗ owns (c : Thread nD τ) arg8 fullShare (maxNext x1 C X x2 a) ∗ owns (c : Thread nD τ) arg9 fullShare (sumNext x1 C X x2 a b) ∗ owns (c : Thread nD τ) arg10 fullShare (labNext i x1 C X x2 x3 d)) -∗ K ⟨⟩))
      ⊢ wp frame (wpE (defs₀ (F := F)) Variants.none c none) E (cc0_fp8_linear_ce i arg1 harg1 arg2 harg2 arg3 harg3 arg4 harg4 arg5 harg5 arg6 harg6 arg7 harg7 arg8 harg8 arg9 harg9 arg10 harg10) K := by
  simp only [cc0_fp8_linear_ce_eq_skeleton]; unfold cc0_fp8_linear_ce_skel
  simp only [k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1; obtain rfl := harg10.eq_unread hfs2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro; delta run_last.sl.v54 run_last.sl.v55 run_last.sl.v58 run_last.sl.HS0_1 run_last.sl.HS1_1 run_last.sl.HS2_1; (try delta run_last.sl.r); (try delta run_last.sl.r_1)
    rw [View.read_writes_full]; (repeat rw [View.readCov_full]); (repeat rw [View.readAt_full]); (repeat rw [Memref.IsWhole.read_unread]); rfl
  isplitl [H5]
  · iexists _; isplitr; · ipureintro; exact harg6.read_unread _
    iexact H5
  isplitl [H6]
  · iexists _; isplitr; · ipureintro; exact harg7.read_unread _
    iexact H6
  isplitl [HS0]
  · iexists _; isplitr; swap; · iexact HS0
    ipureintro; delta run_last.sl.HS0_1; (try delta run_last.sl.r); (try delta run_last.sl.r_1); rw [View.read_writes_full]; (repeat rw [View.readAt_full]); (repeat rw [Memref.IsWhole.read_unread]); rfl
  isplitl [HS1]
  · iexists _; isplitr; swap; · iexact HS1
    ipureintro; delta run_last.sl.HS1_1; (try delta run_last.sl.r); (try delta run_last.sl.r_1); rw [View.read_writes_full]; (repeat rw [View.readAt_full]); (repeat rw [Memref.IsWhole.read_unread]); rfl
  iexists _; isplitr; swap; · iexact HS2
  ipureintro; delta run_last.sl.HS2_1; (try delta run_last.sl.r); (try delta run_last.sl.r_1); rw [View.read_writes_full]; (repeat rw [View.readAt_full]); (repeat rw [Memref.IsWhole.read_unread]); rfl

set_option maxHeartbeats 1600000 in
/-- The first point: the codes and the scales are computed, and the running values start. -/
theorem run_first (hc0 : k0_cond1 i = 1#1) (hc1 : ¬k0_cond2 i = 1#1) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare C ∗ owns (c : Thread nD τ) arg7 fullShare X ∗ owns (c : Thread nD τ) arg8 fullShare a ∗ owns (c : Thread nD τ) arg9 fullShare b ∗ owns (c : Thread nD τ) arg10 fullShare d
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (codes x0) ∗ owns (c : Thread nD τ) arg7 fullShare (scales x0) ∗ owns (c : Thread nD τ) arg8 fullShare (maxNext x1 (codes x0) (scales x0) x2 k0_pay57) ∗ owns (c : Thread nD τ) arg9 fullShare (sumNext x1 (codes x0) (scales x0) x2 k0_pay57 k0_pay58) ∗ owns (c : Thread nD τ) arg10 fullShare (labNext i x1 (codes x0) (scales x0) x2 x3 k0_pay59)) -∗ K ⟨⟩))
      ⊢ wp frame (wpE (defs₀ (F := F)) Variants.none c none) E (cc0_fp8_linear_ce i arg1 harg1 arg2 harg2 arg3 harg3 arg4 harg4 arg5 harg5 arg6 harg6 arg7 harg7 arg8 harg8 arg9 harg9 arg10 harg10) K := by
  simp only [cc0_fp8_linear_ce_eq_skeleton]; unfold cc0_fp8_linear_ce_skel
  simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1; obtain rfl := harg10.eq_unread hfs2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  have h5 : ∀ f, arg6.view.read (Elt F) (arg6.view.writes (Elt F) f (run_first.sl.H5_8 c arg1 harg1 x0)) = codes x0 := by
    intro f
    delta run_first.sl.H5_8
    refine read_codes arg6.view f x0 ![_, _, _, _, _, _, _, _] ?_
    intro r; fin_cases r
    · exact Eq.trans (by rfl) (congrArg chunkCodes (load_chunk 0 harg1 x0 ![0, 0] inb_S512x5120_S64x5120_0_0 rfl))
    · exact Eq.trans (by rfl) (congrArg chunkCodes (load_chunk 1 harg1 x0 ![64, 0] inb_S512x5120_S64x5120_64_0 rfl))
    · exact Eq.trans (by rfl) (congrArg chunkCodes (load_chunk 2 harg1 x0 ![128, 0] inb_S512x5120_S64x5120_128_0 rfl))
    · exact Eq.trans (by rfl) (congrArg chunkCodes (load_chunk 3 harg1 x0 ![192, 0] inb_S512x5120_S64x5120_192_0 rfl))
    · exact Eq.trans (by rfl) (congrArg chunkCodes (load_chunk 4 harg1 x0 ![256, 0] inb_S512x5120_S64x5120_256_0 rfl))
    · exact Eq.trans (by rfl) (congrArg chunkCodes (load_chunk 5 harg1 x0 ![320, 0] inb_S512x5120_S64x5120_320_0 rfl))
    · exact Eq.trans (by rfl) (congrArg chunkCodes (load_chunk 6 harg1 x0 ![384, 0] inb_S512x5120_S64x5120_384_0 rfl))
    · exact Eq.trans (by rfl) (congrArg chunkCodes (load_chunk 7 harg1 x0 ![448, 0] inb_S512x5120_S64x5120_448_0 rfl))
  have h6 : ∀ f, arg7.view.read (Elt F) (arg7.view.writes (Elt F) f (run_first.sl.H6_8 c arg1 harg1 x0)) = scales x0 := by
    intro f
    delta run_first.sl.H6_8
    refine read_scales arg7.view f x0 ![_, _, _, _, _, _, _, _] ?_
    intro r; fin_cases r
    · exact Eq.trans (by rfl) (congrArg chunkScales (load_chunk 0 harg1 x0 ![0, 0] inb_S512x5120_S64x5120_0_0 rfl))
    · exact Eq.trans (by rfl) (congrArg chunkScales (load_chunk 1 harg1 x0 ![64, 0] inb_S512x5120_S64x5120_64_0 rfl))
    · exact Eq.trans (by rfl) (congrArg chunkScales (load_chunk 2 harg1 x0 ![128, 0] inb_S512x5120_S64x5120_128_0 rfl))
    · exact Eq.trans (by rfl) (congrArg chunkScales (load_chunk 3 harg1 x0 ![192, 0] inb_S512x5120_S64x5120_192_0 rfl))
    · exact Eq.trans (by rfl) (congrArg chunkScales (load_chunk 4 harg1 x0 ![256, 0] inb_S512x5120_S64x5120_256_0 rfl))
    · exact Eq.trans (by rfl) (congrArg chunkScales (load_chunk 5 harg1 x0 ![320, 0] inb_S512x5120_S64x5120_320_0 rfl))
    · exact Eq.trans (by rfl) (congrArg chunkScales (load_chunk 6 harg1 x0 ![384, 0] inb_S512x5120_S64x5120_384_0 rfl))
    · exact Eq.trans (by rfl) (congrArg chunkScales (load_chunk 7 harg1 x0 ![448, 0] inb_S512x5120_S64x5120_448_0 rfl))
  have h4 : run_first.sl.v4 c arg1 harg1 arg6 x0 = codes x0 := by
    delta run_first.sl.v4
    exact (View.readAt_full _ _ _).trans (h5 _)
  have h7 : run_first.sl.v7 c arg1 harg1 arg7 x0 = scales x0 := by
    delta run_first.sl.v7
    exact (View.readAt_full _ _ _).trans (h6 _)
  isplitl [H5]
  · iexists _; isplitr; swap; · iexact H5
    ipureintro; exact h5 _
  isplitl [H6]
  · iexists _; isplitr; swap; · iexact H6
    ipureintro; exact h6 _
  isplitl [HS0]
  · iexists _; isplitr; swap; · iexact HS0
    ipureintro; rw [View.read_writes_full]; delta run_first.sl.r_21 run_first.sl.v18 run_first.sl.HS0_1; rw [h4, h7]; (repeat rw [View.readCov_full]); (repeat rw [View.readAt_full]); (repeat rw [Memref.IsWhole.read_unread]); rfl
  isplitl [HS1]
  · iexists _; isplitr; swap; · iexact HS1
    ipureintro; rw [View.read_writes_full]; delta run_first.sl.v18 run_first.sl.v27 run_first.sl.HS0_1 run_first.sl.HS1_1; rw [h4, h7]; (repeat rw [View.readCov_full]); (repeat rw [View.readAt_full]); (repeat rw [Memref.IsWhole.read_unread]); rfl
  iexists _; isplitr; swap; · iexact HS2
  ipureintro; rw [View.read_writes_full]; delta run_first.sl.r_20 run_first.sl.v38 run_first.sl.HS2_1; rw [h4, h7]; (repeat rw [View.readCov_full]); (repeat rw [View.readAt_full]); (repeat rw [Memref.IsWhole.read_unread]); rfl

end

end Cert.KernelIdeal.Hand

end
-- ==== Proof.KernelIdealFrame.lean ====
module

public import proofs.«01_k».proof.Proof.Gen.KernelIdeal.Frame
public import proofs.«01_k».proof.Proof.KernelIdealRuns
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WholeRead
public import Idealize.ShloMosaic.Lib.Writes
public import Idealize.ShloMosaic.Lib.ValueIdx
public import Idealize.ShloMosaic.Lib.Claim
public import Idealize.ShloMosaic.Lib.Pipeline.TableIdle

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points and the branches -/

theorem cond1_iff : ∀ t : Fin cfg0.N, k0_cond1 (grid0.coords t) = 1#1 ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [k0_cond1, e0]
    word_cmp
   : ∀ t : Fin grid0.N, k0_cond1 (grid0.coords t) = 1#1 ↔ t.val % 4 = 0)

theorem cond2_iff : ∀ t : Fin cfg0.N, k0_cond2 (grid0.coords t) = 1#1 ↔ t.val % 4 = 3 :=
  (fun t => by
    have ht : t.val < 4 := Nat.lt_of_lt_of_eq t.isLt N_0
    have e0 : (grid0.coords t 0).val = t.val / 1 % 4 := Pipeline.Grid.coords_val t 0 (by decide) rfl
    simp only [k0_cond2, e0]
    word_cmp
   : ∀ t : Fin grid0.N, k0_cond2 (grid0.coords t) = 1#1 ↔ t.val % 4 = 3)

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl

theorem idle_4 : ∀ t : Fin cfg0.N, ¬k0_cond2 (grid0.coords t) = 1#1 → cfg0.idle 4 (grid0.coords t) = true := by decide +kernel
theorem live_4 : ∀ t : Fin cfg0.N, k0_cond2 (grid0.coords t) = 1#1 → cfg0.idle 4 (grid0.coords t) = false := by decide +kernel
theorem keep_4 : ∀ t : Fin cfg0.N, ¬k0_cond2 (grid0.coords t) = 1#1 → (cfg0.win 4).flush t = false := by decide +kernel
theorem idle_5 : ∀ t : Fin cfg0.N, ¬k0_cond1 (grid0.coords t) = 1#1 → cfg0.idle 5 (grid0.coords t) = true := by decide +kernel
theorem live_5 : ∀ t : Fin cfg0.N, k0_cond1 (grid0.coords t) = 1#1 → cfg0.idle 5 (grid0.coords t) = false := by decide +kernel
theorem keep_5 : ∀ t : Fin cfg0.N, ¬k0_cond2 (grid0.coords t) = 1#1 → (cfg0.win 5).flush t = false := by decide +kernel
theorem back_5 : ∀ t : Fin cfg0.N, k0_cond2 (grid0.coords t) = 1#1 → (cfg0.win 5).flush t = true := by decide +kernel
theorem nofetch_5 : ∀ t : Fin cfg0.N, (cfg0.win 5).fetch t = false := by decide +kernel
theorem idle_6 : ∀ t : Fin cfg0.N, ¬k0_cond1 (grid0.coords t) = 1#1 → cfg0.idle 6 (grid0.coords t) = true := by decide +kernel
theorem live_6 : ∀ t : Fin cfg0.N, k0_cond1 (grid0.coords t) = 1#1 → cfg0.idle 6 (grid0.coords t) = false := by decide +kernel
theorem keep_6 : ∀ t : Fin cfg0.N, ¬k0_cond2 (grid0.coords t) = 1#1 → (cfg0.win 6).flush t = false := by decide +kernel
theorem back_6 : ∀ t : Fin cfg0.N, k0_cond2 (grid0.coords t) = 1#1 → (cfg0.win 6).flush t = true := by decide +kernel
theorem nofetch_6 : ∀ t : Fin cfg0.N, (cfg0.win 6).fetch t = false := by decide +kernel
abbrev ms_0 (t : Fin cfg0.N) : Memref sig .tc .vmem S512x5120 .bf16 := win0_0.stage (cfg0.slots t 0)
abbrev ms_1 (t : Fin cfg0.N) : Memref sig .tc .vmem S992x5120 .fp8e4m3 := win0_1.stage (cfg0.slots t 1)
abbrev ms_2 (t : Fin cfg0.N) : Memref sig .tc .vmem S992x1 .f32 := win0_2.stage (cfg0.slots t 2)
abbrev ms_3 (t : Fin cfg0.N) : Memref sig .tc .vmem S1x512 .i32 := win0_3.stage (cfg0.slots t 3)
abbrev ms_4 (t : Fin cfg0.N) : Memref sig .tc .vmem S1x512 .f32 := win0_4.stage (cfg0.slots t 4)
abbrev ms_5 (t : Fin cfg0.N) : Memref sig .tc .vmem S512x5120 .fp8e4m3 := win0_5.stage (cfg0.slots t 5)
abbrev ms_6 (t : Fin cfg0.N) : Memref sig .tc .vmem S1x512 .f32 := win0_6.stage (cfg0.slots t 6)
abbrev scM0 : Memref sig .tc .vmem S1x512 .f32 := Memref.whole cc0_scratch0
abbrev scM1 : Memref sig .tc .vmem S1x512 .f32 := Memref.whole cc0_scratch1
abbrev scM2 : Memref sig .tc .vmem S1x512 .f32 := Memref.whole cc0_scratch2

theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-! ## What the buffers hold after each point -/

/-- The first point. -/
def t0 : Fin cfg0.N := ⟨0, lt_of_lt_of_eq (by decide) (show cfg0.N = 4 from N_0).symm⟩

/-- The codes, computed at the first point. -/
def codesOf (c : Dev nD) : Vec F S512x5120 .fp8e4m3 := codes (iblk m c 0 t0)
/-- The scales, computed at the first point. -/
def scalesOf (c : Dev nD) : Vec F S1x512 .f32 := scales (iblk m c 0 t0)

/-- The running maximum, the running sum and the label's logit after the first `n` points. -/
def st (c : Dev nD) : ℕ → Vec F S1x512 .f32 × Vec F S1x512 .f32 × Vec F S1x512 .f32
  | 0 => (k0_pay57, k0_pay58, k0_pay59)
  | n + 1 =>
    if h : n < cfg0.N then
      (maxNext (iblk m c 1 ⟨n, h⟩) (codesOf m c) (scalesOf m c) (iblk m c 2 ⟨n, h⟩) (st c n).1,
        sumNext (iblk m c 1 ⟨n, h⟩) (codesOf m c) (scalesOf m c) (iblk m c 2 ⟨n, h⟩) (st c n).1 (st c n).2.1,
        labNext (grid0.coords ⟨n, h⟩) (iblk m c 1 ⟨n, h⟩) (codesOf m c) (scalesOf m c) (iblk m c 2 ⟨n, h⟩) (iblk m c 3 ⟨n, h⟩) (st c n).2.2)
    else st c n

theorem st_zero (c : Dev nD) : st m c 0 = (k0_pay57, k0_pay58, k0_pay59) := rfl

theorem st_succ (c : Dev nD) (t : Fin cfg0.N) : st m c (t.val + 1) =
      (maxNext (iblk m c 1 t) (codesOf m c) (scalesOf m c) (iblk m c 2 t) (st m c t.val).1,
        sumNext (iblk m c 1 t) (codesOf m c) (scalesOf m c) (iblk m c 2 t) (st m c t.val).1 (st m c t.val).2.1,
        labNext (grid0.coords t) (iblk m c 1 t) (codesOf m c) (scalesOf m c) (iblk m c 2 t) (iblk m c 3 t) (st m c t.val).2.2) :=
  dif_pos t.isLt

/-- The loss as it would be after the first `n` points. -/
def lossOf (c : Dev nD) (n : ℕ) : Vec F S1x512 .f32 := k0_pay3 (st m c n).1 (st m c n).2.1 (st m c n).2.2

/-- The invariant before position `n`: the scratch at what the first `n` points left. -/
def PhiS (c : Dev nD) : ℕ → sProp 𝕄
  | 0 => Pipeline.ΦA spec0 c
  | n + 1 => iprop(iprop(owns (c : Thread nD τ) scM0 fullShare ((st m c (n + 1)).1) ∗ owns (c : Thread nD τ) scM1 fullShare ((st m c (n + 1)).2.1) ∗ owns (c : Thread nD τ) scM2 fullShare ((st m c (n + 1)).2.2)) ∗ (∃ r, prngReg c r))

theorem PhiS_zero (c : Dev nD) (n : ℕ) (hz : n = 0) : PhiS m c n = Pipeline.ΦA spec0 c := by subst hz; rfl

theorem PhiS_succ (c : Dev nD) (n : ℕ) :
    PhiS m c (n + 1) = iprop(iprop(owns (c : Thread nD τ) scM0 fullShare ((st m c (n + 1)).1) ∗ owns (c : Thread nD τ) scM1 fullShare ((st m c (n + 1)).2.1) ∗ owns (c : Thread nD τ) scM2 fullShare ((st m c (n + 1)).2.2)) ∗ (∃ r, prngReg c r)) := rfl

theorem PhiS_pos (c : Dev nD) (n : ℕ) (hz : n ≠ 0) :
    PhiS m c n = iprop(iprop(owns (c : Thread nD τ) scM0 fullShare ((st m c n).1) ∗ owns (c : Thread nD τ) scM1 fullShare ((st m c n).2.1) ∗ owns (c : Thread nD τ) scM2 fullShare ((st m c n).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => lossOf m c (t.val + 1)
    | ⟨5, _⟩ => codesOf m c
    | ⟨6, _⟩ => scalesOf m c
  Φ t := PhiS m c t.val
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = lossOf m c (t.val + 1) := by dsimp only [dats]
theorem after_5 (c : Dev nD) (t : Fin cfg0.N) : (dats m 0 c).after 5 t = codesOf m c := by dsimp only [dats]
theorem after_6 (c : Dev nD) (t : Fin cfg0.N) : (dats m 0 c).after 6 t = scalesOf m c := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- After the first point, output 5's buffer holds what the first point stored. -/
theorem before_5 (c : Dev nD) (t : Fin cfg0.N) (hz : t.val ≠ 0) (d) : (dats m 0 c).before 5 t d = codesOf m c := by
  have hN : t.val < 4 := lt_of_lt_of_eq t.isLt (show cfg0.N = 4 from N_0)
  have hN0 : cfg0.N = 4 := N_0
  rw [Dat.before_idle_run (dats m 0 c) 5 nofetch_5 d (t.val - 1) t (by omega) (fun j hj hj' =>
    ⟨idle_5 j (fun h => by have := (cond1_iff j).mp h; omega), keep_5 j (fun h => by have := (cond2_iff j).mp h; omega)⟩)]
  have e : (⟨t.val - (t.val - 1), by omega⟩ : Fin cfg0.N) = ⟨1, by omega⟩ := Fin.ext (by show t.val - (t.val - 1) = 1; omega)
  rw [e, Dat.before_of_pos _ _ _ (by simp) (nofetch_5 _)]
  have e0 : (⟨(⟨1, by omega⟩ : Fin cfg0.N).val - 1, by simp; omega⟩ : Fin cfg0.N) = t0 := Fin.ext rfl
  rw [if_neg (by rw [keep_5 _ (fun h => by have := (cond2_iff _).mp h; simp at this)]; exact Bool.false_ne_true)]
  unfold Dat.left
  rw [live_5 _ ((cond1_iff _).mpr rfl)]
  rfl

/-- After the first point, output 6's buffer holds what the first point stored. -/
theorem before_6 (c : Dev nD) (t : Fin cfg0.N) (hz : t.val ≠ 0) (d) : (dats m 0 c).before 6 t d = scalesOf m c := by
  have hN : t.val < 4 := lt_of_lt_of_eq t.isLt (show cfg0.N = 4 from N_0)
  have hN0 : cfg0.N = 4 := N_0
  rw [Dat.before_idle_run (dats m 0 c) 6 nofetch_6 d (t.val - 1) t (by omega) (fun j hj hj' =>
    ⟨idle_6 j (fun h => by have := (cond1_iff j).mp h; omega), keep_6 j (fun h => by have := (cond2_iff j).mp h; omega)⟩)]
  have e : (⟨t.val - (t.val - 1), by omega⟩ : Fin cfg0.N) = ⟨1, by omega⟩ := Fin.ext (by show t.val - (t.val - 1) = 1; omega)
  rw [e, Dat.before_of_pos _ _ _ (by simp) (nofetch_6 _)]
  have e0 : (⟨(⟨1, by omega⟩ : Fin cfg0.N).val - 1, by simp; omega⟩ : Fin cfg0.N) = t0 := Fin.ext rfl
  rw [if_neg (by rw [keep_6 _ (fun h => by have := (cond2_iff _).mp h; simp at this)]; exact Bool.false_ne_true)]
  unfold Dat.left
  rw [live_6 _ ((cond1_iff _).mpr rfl)]
  rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_0 (c : Dev nD) (t : Fin cfg0.N) : (dats m 0 c).leavesExact 0 t = owns (c : Thread nD τ) (ms_0 t) fullShare (iblk m c 0 t) := by
  rw [show (dats m 0 c).leavesExact 0 t = owns (c : Thread nD τ) (ms_0 t) fullShare ((dats m 0 c).after 0 t) from by
    unfold Dat.leavesExact; rw [live_0 t], after_0]
theorem leaves_1 (c : Dev nD) (t : Fin cfg0.N) : (dats m 0 c).leavesExact 1 t = owns (c : Thread nD τ) (ms_1 t) fullShare (iblk m c 1 t) := by
  rw [show (dats m 0 c).leavesExact 1 t = owns (c : Thread nD τ) (ms_1 t) fullShare ((dats m 0 c).after 1 t) from by
    unfold Dat.leavesExact; rw [live_1 t], after_1]
theorem leaves_2 (c : Dev nD) (t : Fin cfg0.N) : (dats m 0 c).leavesExact 2 t = owns (c : Thread nD τ) (ms_2 t) fullShare (iblk m c 2 t) := by
  rw [show (dats m 0 c).leavesExact 2 t = owns (c : Thread nD τ) (ms_2 t) fullShare ((dats m 0 c).after 2 t) from by
    unfold Dat.leavesExact; rw [live_2 t], after_2]
theorem leaves_3 (c : Dev nD) (t : Fin cfg0.N) : (dats m 0 c).leavesExact 3 t = owns (c : Thread nD τ) (ms_3 t) fullShare (iblk m c 3 t) := by
  rw [show (dats m 0 c).leavesExact 3 t = owns (c : Thread nD τ) (ms_3 t) fullShare ((dats m 0 c).after 3 t) from by
    unfold Dat.leavesExact; rw [live_3 t], after_3]
theorem leaves_4_live (c : Dev nD) (t : Fin cfg0.N) (h : k0_cond2 (grid0.coords t) = 1#1) : (dats m 0 c).leavesExact 4 t = owns (c : Thread nD τ) (ms_4 t) fullShare (lossOf m c (t.val + 1)) := by
  rw [show (dats m 0 c).leavesExact 4 t = owns (c : Thread nD τ) (ms_4 t) fullShare ((dats m 0 c).after 4 t) from by
    unfold Dat.leavesExact; rw [live_4 t h], after_4]
theorem leaves_5_live (c : Dev nD) (t : Fin cfg0.N) (h : k0_cond1 (grid0.coords t) = 1#1) : (dats m 0 c).leavesExact 5 t = owns (c : Thread nD τ) (ms_5 t) fullShare (codesOf m c) := by
  rw [show (dats m 0 c).leavesExact 5 t = owns (c : Thread nD τ) (ms_5 t) fullShare ((dats m 0 c).after 5 t) from by
    unfold Dat.leavesExact; rw [live_5 t h], after_5]
theorem leaves_6_live (c : Dev nD) (t : Fin cfg0.N) (h : k0_cond1 (grid0.coords t) = 1#1) : (dats m 0 c).leavesExact 6 t = owns (c : Thread nD τ) (ms_6 t) fullShare (scalesOf m c) := by
  rw [show (dats m 0 c).leavesExact 6 t = owns (c : Thread nD τ) (ms_6 t) fullShare ((dats m 0 c).after 6 t) from by
    unfold Dat.leavesExact; rw [live_6 t h], after_6]
theorem leaves_5_back (c : Dev nD) (t : Fin cfg0.N) (h : ¬k0_cond1 (grid0.coords t) = 1#1) (h' : k0_cond2 (grid0.coords t) = 1#1) :
    (dats m 0 c).leavesExact 5 t = owns (c : Thread nD τ) (ms_5 t) fullShare (codesOf m c) := by
  rw [show (dats m 0 c).leavesExact 5 t = owns (c : Thread nD τ) (ms_5 t) fullShare ((dats m 0 c).after 5 t) from by
    unfold Dat.leavesExact; rw [idle_5 t h, back_5 t h'], after_5]
theorem leaves_6_back (c : Dev nD) (t : Fin cfg0.N) (h : ¬k0_cond1 (grid0.coords t) = 1#1) (h' : k0_cond2 (grid0.coords t) = 1#1) :
    (dats m 0 c).leavesExact 6 t = owns (c : Thread nD τ) (ms_6 t) fullShare (scalesOf m c) := by
  rw [show (dats m 0 c).leavesExact 6 t = owns (c : Thread nD τ) (ms_6 t) fullShare ((dats m 0 c).after 6 t) from by
    unfold Dat.leavesExact; rw [idle_6 t h, back_6 t h'], after_6]

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) from rfl, PhiS_succ, PhiS_castSucc]
  rw [leaves_0, leaves_1, leaves_2, leaves_3, st_succ m c t]
  dsimp only
  have hN : t.val < 4 := lt_of_lt_of_eq t.isLt (show cfg0.N = 4 from N_0)
  by_cases h0 : t.val % 4 = 0
  · have hc1 := (cond1_iff t).mpr h0
    have hc2 : ¬k0_cond2 (grid0.coords t) = 1#1 := fun h => by have := (cond2_iff t).mp h; omega
    have hz : t = t0 := Fin.ext (by show t.val = 0; omega)
    subst hz
    rw [PhiS_zero m c t0.val rfl, PhiA0_eq, leaves_5_live m c _ hc1, leaves_6_live m c _ hc1, Dat.leavesExact_idle (dats m 0 c) 4 _ (idle_4 _ hc2) (keep_4 _ hc2)]
    rw [show t0.val = 0 from rfl, st_zero]
    dsimp only
    iintro ⟨⟨⟨⟨%e0, HS0⟩, ⟨%e1, HS1⟩, ⟨%e2, HS2⟩⟩, Hg⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords t0) _ _ _ _ _ _ _ _ _ _ _ _ _ _ _ _ _ _ _ _ (iblk m c 0 t0) (iblk m c 1 t0) (iblk m c 2 t0) (iblk m c 3 t0) _ _ _ _ _ _ hc1 hc2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexists d4; iexact H4
    isplitl [H5]; · iexact H5
    iexact H6
  · have hz : t.val ≠ 0 := fun h => by omega
    have hc1 : ¬k0_cond1 (grid0.coords t) = 1#1 := fun h => by have := (cond1_iff t).mp h; omega
    rw [PhiS_pos m c _ hz]
    by_cases h3 : t.val % 4 = 3
    · have hc2 := (cond2_iff t).mpr h3
      simp only [before_5 m c t hz, before_6 m c t hz]
      rw [leaves_4_live m c t hc2, leaves_5_back m c t hc1 hc2, leaves_6_back m c t hc1 hc2, lossOf, st_succ m c t]
      dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (run_last c (grid0.coords t) _ _ _ _ _ _ _ _ _ _ _ _ _ _ _ _ _ _ _ _ (iblk m c 0 t) (iblk m c 1 t) (iblk m c 2 t) (iblk m c 3 t) _ (codesOf m c) (scalesOf m c) _ _ _ hc1 hc2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc2 : ¬k0_cond2 (grid0.coords t) = 1#1 := fun h => h3 ((cond2_iff t).mp h)
      rw [Dat.leavesExact_idle (dats m 0 c) 4 _ (idle_4 _ hc2) (keep_4 _ hc2), Dat.leavesExact_idle (dats m 0 c) 5 _ (idle_5 _ hc1) (keep_5 _ hc2), Dat.leavesExact_idle (dats m 0 c) 6 _ (idle_6 _ hc1) (keep_6 _ hc2)]
      simp only [before_5 m c t hz, before_6 m c t hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (run_mid c (grid0.coords t) _ _ _ _ _ _ _ _ _ _ _ _ _ _ _ _ _ _ _ _ (iblk m c 0 t) (iblk m c 1 t) (iblk m c 2 t) (iblk m c 3 t) _ (codesOf m c) (scalesOf m c) _ _ _ hc1 hc2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexists d4; iexact H4
      isplitl [H5]; · iexists d5; iexact H5
      iexists d6; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 4 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the launch terminates, the arguments end unchanged, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.KernelIdealValue.lean ====
module

public import proofs.«01_k».proof.Proof.KernelIdealFrame
public import Idealize.ShloMosaic.Lib.Pipeline.Value
public import Idealize.ShloMosaic.Lib.Pipeline.ValueKit.Geometry
public import Idealize.ShloMosaic.Lib.Claim
public import Idealize.ShloMosaic.PureOps.Ideal.Laws

/-! What the launch leaves in the kernel's three results. -/

@[expose] public section

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.Pipeline

variable {F : FTy → Type} [FloatOps F]
variable (m : (ℓ : Loc nD τ sig) → Buf (Elt F) ℓ)

/-- The last grid point. -/
def tLast : Fin cfg0.N := ⟨3, lt_of_lt_of_eq (by decide) (show cfg0.N = 4 from N_0).symm⟩

theorem arr_4 (c : Dev nD) : (dats m 0 c).arrAt 4 cfg0.N = lossOf m c 4 :=
  (dats m 0 c).arrAt_eq_of_after_last 4 tLast (by decide +kernel) _ fun j => by
    rw [after_4]; rfl
theorem arr_5 (c : Dev nD) : (dats m 0 c).arrAt 5 cfg0.N = codesOf m c :=
  (dats m 0 c).arrAt_eq_of_after_last 5 tLast (by decide +kernel) _ fun j => by
    rw [after_5]; rfl
theorem arr_6 (c : Dev nD) : (dats m 0 c).arrAt 6 cfg0.N = scalesOf m c :=
  (dats m 0 c).arrAt_eq_of_after_last 6 tLast (by decide +kernel) _ fun j => by
    rw [after_6]; rfl

/-- The buffers' contents when the pipeline is done. -/
abbrev exitV (c : Dev nD) : Valuation τ sig (Elt F) :=
  Pipeline.withArrays spec0 c (V0 m c) fun w => (dats m 0 c).arrAt w cfg0.N

theorem exit_4 (c : Dev nD) : exitV m c (Proc.devRef .tc main_v2_0) = lossOf m c 4 :=
  (Pipeline.withArrays_arr spec0 launch0.win.arr_inj c (V0 m c) _ 4).trans (arr_4 m c)
theorem exit_5 (c : Dev nD) : exitV m c (Proc.devRef .tc main_v2_1) = codesOf m c :=
  (Pipeline.withArrays_arr spec0 launch0.win.arr_inj c (V0 m c) _ 5).trans (arr_5 m c)
theorem exit_6 (c : Dev nD) : exitV m c (Proc.devRef .tc main_v2_2) = scalesOf m c :=
  (Pipeline.withArrays_arr spec0 launch0.win.arr_inj c (V0 m c) _ 6).trans (arr_6 m c)

theorem tail_3 (V : Valuation τ sig (Elt F)) : after (List.flatten [hostOps1]) V (Proc.devRef .tc main_v3)
    = shapeCast S2x256 (V (Proc.devRef .tc main_v2_0)) shapeCasts_S1x512_S2x256 := by
  simp only [hostOps1, List.flatten_cons, List.flatten_nil, List.append_nil]
  after_results_simp <;> rfl
theorem tail_4 (V : Valuation τ sig (Elt F)) : after (List.flatten [hostOps1]) V (Proc.devRef .tc main_v4)
    = shapeCast S2x256x5120 (V (Proc.devRef .tc main_v2_1)) shapeCasts_S512x5120_S2x256x5120 := by
  simp only [hostOps1, List.flatten_cons, List.flatten_nil, List.append_nil]
  after_results_simp <;> rfl
theorem tail_5 (V : Valuation τ sig (Elt F)) : after (List.flatten [hostOps1]) V (Proc.devRef .tc main_v5)
    = shapeCast S2x256x1 (V (Proc.devRef .tc main_v2_2)) shapeCasts_S1x512_S2x256x1 := by
  simp only [hostOps1, List.flatten_cons, List.flatten_nil, List.append_nil]
  after_results_simp <;> rfl

theorem V_main_v0 (c : Dev nD) : V m c main_v0 = shapeCast S512x5120 (m ((c.tc : Thread nD τ).loc main_arg0)) shapeCasts_S2x256x5120_S512x5120 := by
  show V0 m c (Proc.devRef .tc main_v0) = _
  simp only [V0, hostOps0, List.flatten_cons, List.flatten_nil, List.append_nil]
  after_results_simp <;> rfl
theorem V_main_v1 (c : Dev nD) : V m c main_v1 = shapeCast S1x512 (m ((c.tc : Thread nD τ).loc main_arg3)) shapeCasts_S2x256_S1x512 := by
  show V0 m c (Proc.devRef .tc main_v1) = _
  simp only [V0, hostOps0, List.flatten_cons, List.flatten_nil, List.append_nil]
  after_results_simp <;> rfl

/-- The kernel ends with the loss, the codes and the scales, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v3) = shapeCast S2x256 (lossOf m c 4) shapeCasts_S1x512_S2x256
      ∧ r.2.mem ((c.tc : Thread nD τ).loc main_v4) = shapeCast S2x256x5120 (codesOf m c) shapeCasts_S512x5120_S2x256x5120
      ∧ r.2.mem ((c.tc : Thread nD τ).loc main_v5) = shapeCast S2x256x1 (scalesOf m c) shapeCasts_S1x512_S2x256x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (θ_run_and (unchanged m ρ) (run_main m ρ)) fun r h c => ⟨
    ((h.2 c).2 main_v3 (Pipeline.mem_restRefs_of main_v3 (by decide) (by decide))).trans ((tail_3 (exitV m c)).trans (by rw [exit_4])),
    ((h.2 c).2 main_v4 (Pipeline.mem_restRefs_of main_v4 (by decide) (by decide))).trans ((tail_4 (exitV m c)).trans (by rw [exit_5])),
    ((h.2 c).2 main_v5 (Pipeline.mem_restRefs_of main_v5 (by decide) (by decide))).trans ((tail_5 (exitV m c)).trans (by rw [exit_6])),
    h.1 c⟩

end Cert.KernelIdeal.Hand

end
-- ==== Proof.Scale.lean ====
module

public import Idealize.ShloMosaic.PureOps.Ideal
public import Idealize.ShloMosaic.PureOps.Ideal.Laws
public import Idealize.ShloMosaic.Lib.IndicatorCount

/-! The power-of-two scale of a token: counting the powers of two at most a number gives the exponent of its binade. -/

@[expose] public section

noncomputable section

namespace Cert.Scale

open Idealize.ShloMosaic

/-- The word whose exponent field is `k`. -/
def word (k : ℕ) : BitVec 32 := BitVec.ofNat 32 k <<< 23

/-- The power of two in the `k`-th binade. -/
def pw (k : ℕ) : ℝ := (2 : ℝ) ^ ((k : ℤ) - 127)

theorem word_fields : ∀ k : Fin 256, ((word k.val).extractLsb' 23 8).toNat = k.val
    ∧ ((word k.val).extractLsb' 0 23).toNat = 0 ∧ ((word k.val).extractLsb' 31 1 == 1#1) = false := by
  decide +kernel

theorem ofBits_word_zero : Ideal.ofBits .f32 (word 0) = 0 := by
  obtain ⟨h1, h2, h3⟩ := word_fields ⟨0, by decide⟩
  simp only [Ideal.ofBits, Ideal.ieee, h1, h2, h3]
  simp
theorem ofBits_word_top : Ideal.ofBits .f32 (word 255) = ⊤ := by
  obtain ⟨h1, h2, h3⟩ := word_fields ⟨255, by decide⟩
  simp only [Ideal.ofBits, Ideal.ieee, h1, h2, h3]
  simp
theorem ofBits_word (k : ℕ) (h0 : 1 ≤ k) (h1 : k ≤ 254) : Ideal.ofBits .f32 (word k) = ((pw k : ℝ) : EReal) := by
  obtain ⟨h1, h2, h3⟩ := word_fields ⟨k, by omega⟩
  simp only [Ideal.ofBits, Ideal.ieee, h1, h2, h3]
  have e1 : ¬ k = 2 ^ 8 - 1 := by omega
  have e2 : ¬ k = 0 := by omega
  rw [if_neg e1, if_neg e2, if_neg (by decide)]
  refine congrArg Real.toEReal ?_
  have e3 : ((2 ^ 23 + 0 : ℕ) : ℝ) = (2 : ℝ) ^ (23 : ℤ) := by norm_num
  rw [one_mul, e3, ← zpow_add₀ (by norm_num)]
  unfold pw
  refine congrArg _ ?_
  norm_num

theorem pw_le (j k : ℕ) (h : j ≤ k) : pw j ≤ pw k := zpow_le_zpow_right₀ (by norm_num) (by omega)
theorem pw_pos (k : ℕ) : 0 < pw k := zpow_pos (by norm_num) _

/-- `n` is the binade of `t`: 0 below the least normal number. -/
def Level (t : EReal) (n : ℕ) : Prop := n ≤ 246 ∧ ∀ k, 1 ≤ k → k ≤ 254 → (((pw k : ℝ) : EReal) ≤ t ↔ k ≤ n)

theorem exists_level (r : ℝ) (h1 : r < 2 ^ 120) : ∃ n, Level (r : EReal) n := by
  by_cases hs : r < pw 1
  · refine ⟨0, by omega, fun k hk _ => ⟨fun h => ?_, fun h => by omega⟩⟩
    exact absurd (lt_of_le_of_lt ((pw_le 1 k hk).trans (EReal.coe_le_coe_iff.mp h)) hs) (lt_irrefl _)
  · rw [not_lt] at hs
    obtain ⟨z, hz1, hz2⟩ := exists_mem_Ico_zpow (lt_of_lt_of_le (pw_pos 1) hs) (one_lt_two : (1 : ℝ) < 2)
    have hz3 : -126 ≤ z := by
      have : (2 : ℝ) ^ (((1 : ℕ) : ℤ) - 127) < 2 ^ (z + 1) := lt_of_le_of_lt hs hz2
      have := (zpow_lt_zpow_iff_right₀ (one_lt_two : (1 : ℝ) < 2)).mp this
      push_cast at this; omega
    have hz4 : z < 120 := by
      have : (2 : ℝ) ^ z < 2 ^ (120 : ℤ) := lt_of_le_of_lt hz1 (by exact_mod_cast h1)
      exact (zpow_lt_zpow_iff_right₀ (one_lt_two : (1 : ℝ) < 2)).mp this
    refine ⟨(z + 127).toNat, by omega, fun k hk hk' => ?_⟩
    rw [EReal.coe_le_coe_iff]
    constructor
    · intro h
      have : (2 : ℝ) ^ ((k : ℤ) - 127) < 2 ^ (z + 1) := lt_of_le_of_lt h hz2
      have := (zpow_lt_zpow_iff_right₀ (one_lt_two : (1 : ℝ) < 2)).mp this
      omega
    · intro h
      refine le_trans (zpow_le_zpow_right₀ (by norm_num) ?_) hz1
      omega

/-- How many of the 256 exponent words are at most `t`. -/
theorem card_level (t : EReal) (n : ℕ) (h0 : 0 ≤ t) (h1 : t ≠ ⊤) (h : Level t n) :
    (Finset.univ.filter fun k : Fin 256 => ¬ t < Ideal.ofBits .f32 (word k.val)).card = n + 1 := by
  have e : (Finset.univ.filter fun k : Fin 256 => ¬ t < Ideal.ofBits .f32 (word k.val))
      = Finset.univ.filter fun k : Fin 256 => k.val < n + 1 := by
    refine Finset.filter_congr fun k _ => ?_
    rw [not_lt]
    obtain ⟨k, hk⟩ := k
    by_cases hz : k = 0
    · subst hz; rw [ofBits_word_zero]; exact ⟨fun _ => Nat.succ_pos n, fun _ => h0⟩
    by_cases ht : k = 255
    · subst ht; rw [ofBits_word_top]
      have := h.1
      exact ⟨fun h => absurd (top_le_iff.mp h) h1, fun h => absurd (show 255 < n + 1 from h) (by omega)⟩
    · rw [ofBits_word k (by omega) (by omega), h.2 k (by omega) (by omega)]
      show k ≤ n ↔ k < n + 1
      omega
  rw [e, Fin.card_filter_val_lt]
  have := h.1
  omega

/-- The scale of binade `n`. -/
def sc (n : ℕ) : EReal := if n = 0 then 1 else (((2 : ℝ) ^ ((n : ℤ) - 126) : ℝ) : EReal)
/-- Its inverse. -/
def isc (n : ℕ) : EReal := if n = 0 then 1 else (((2 : ℝ) ^ (-((n : ℤ) - 126)) : ℝ) : EReal)

theorem ofBits_127 : Ideal.ofBits .f32 (word 127) = 1 := by
  rw [ofBits_word 127 (by omega) (by omega)]; unfold pw; norm_num

theorem sc_word (n : ℕ) (h : n ≤ 246) : Ideal.ofBits .f32 (word (if n = 0 then 127 else n + 1)) = sc n := by
  unfold sc
  by_cases hn : n = 0
  · rw [if_pos hn, if_pos hn, ofBits_127]
  · rw [if_neg hn, if_neg hn, ofBits_word _ (by omega) (by omega)]; unfold pw
    congr 2; push_cast; ring
theorem isc_word (n : ℕ) (h : n ≤ 246) : Ideal.ofBits .f32 (word (if n = 0 then 127 else 253 - n)) = isc n := by
  unfold isc
  by_cases hn : n = 0
  · rw [if_pos hn, if_pos hn, ofBits_127]
  · rw [if_neg hn, if_neg hn, ofBits_word _ (by omega) (by omega)]; unfold pw
    congr 2; omega

/-! ## The exponent as the largest of a list -/

/-- The largest of the exponents whose power of two is at most `t`. -/
theorem sup_level (t : EReal) (n : ℕ) (h : Level t n) (hn : 1 ≤ n) :
    ((Finset.univ : Finset (Fin 254)).sup fun k => if ((pw (k.val + 1) : ℝ) : EReal) ≤ t then (((k.val : ℝ) - 126 : ℝ) : EReal) else ⊥)
      = (((n : ℝ) - 127 : ℝ) : EReal) := by
  have hb := h.1
  apply le_antisymm
  · refine Finset.sup_le fun k _ => ?_
    split
    · rename_i hk
      have := (h.2 (k.val + 1) (by omega) (by have := k.isLt; omega)).mp hk
      have : ((k.val + 1 : ℕ) : ℝ) ≤ n := by exact_mod_cast this
      push_cast at this
      exact EReal.coe_le_coe_iff.mpr (by linarith)
    · exact bot_le
  · have := Finset.le_sup (f := fun k : Fin 254 => if ((pw (k.val + 1) : ℝ) : EReal) ≤ t then (((k.val : ℝ) - 126 : ℝ) : EReal) else ⊥)
      (Finset.mem_univ (⟨n - 1, by omega⟩ : Fin 254))
    refine le_trans (le_of_eq ?_) this
    show _ = if ((pw (n - 1 + 1) : ℝ) : EReal) ≤ t then ((((n - 1 : ℕ) : ℝ) - 126 : ℝ) : EReal) else ⊥
    rw [Nat.sub_add_cancel hn, if_pos ((h.2 n hn (by omega)).mpr le_rfl), Nat.cast_sub hn]
    congr 1; push_cast; ring

theorem pow_two_int (z : ℤ) : Ideal.pow ((2 : ℝ) : EReal) (((z : ℝ) : ℝ) : EReal) = (((2 : ℝ) ^ z : ℝ) : EReal) := by
  rw [Ideal.pow_coe_coe]
  congr 1
  exact Real.rpow_intCast 2 z

/-! ## A row of tokens -/

/-- The largest magnitude of a row. -/
def amax {n : ℕ} (a : Fin n → EReal) : EReal := (Finset.univ : Finset (Fin n)).sup fun j => max (a j) (-(a j))
/-- The number whose binade sets the scale of a row. -/
def quo {n : ℕ} (a : Fin n → EReal) : EReal := amax a * Ideal.ofBits .f32 0x3B124925#32

theorem ofBits_c : Ideal.ofBits .f32 0x3B124925#32 = ((9586981 / 4294967296 : ℝ) : EReal) := by
  simp only [Ideal.ofBits, Ideal.ieee, show ((0x3B124925#32 : BitVec 32).extractLsb' 23 8).toNat = 118 from rfl,
    show ((0x3B124925#32 : BitVec 32).extractLsb' 0 23).toNat = 1198373 from rfl, show ((0x3B124925#32 : BitVec 32).extractLsb' 31 1 == 1#1) = false from rfl]
  rw [if_neg (by decide), if_neg (by decide), if_neg (by decide)]
  refine congrArg Real.toEReal ?_
  norm_num

theorem ofBits_bf16_max : Ideal.ofBits .f32 0x7F7F0000#32 = (((255 : ℝ) * 2 ^ 120 : ℝ) : EReal) := by
  simp only [Ideal.ofBits, Ideal.ieee, show ((0x7F7F0000#32 : BitVec 32).extractLsb' 23 8).toNat = 254 from rfl,
    show ((0x7F7F0000#32 : BitVec 32).extractLsb' 0 23).toNat = 8323072 from rfl, show ((0x7F7F0000#32 : BitVec 32).extractLsb' 31 1 == 1#1) = false from rfl]
  rw [if_neg (by decide), if_neg (by decide), if_neg (by decide)]
  refine congrArg Real.toEReal ?_
  norm_num

theorem abs_nonneg (x : EReal) : 0 ≤ max x (-x) := by
  rcases le_total 0 x with h | h
  · exact le_max_of_le_left h
  · exact le_max_of_le_right (by simpa using EReal.neg_le_neg_iff.mpr h)

/-- A row of numbers none of which exceeds the largest bf16 has a level. -/
theorem quo_level {n : ℕ} [NeZero n] (a : Fin n → EReal) (h : ∀ j, max (a j) (-(a j)) ≤ Ideal.ofBits .f32 0x7F7F0000#32) :
    ∃ k, Level (quo a) k ∧ 0 ≤ quo a ∧ quo a ≠ ⊤ := by
  have h0 : 0 ≤ amax a := (abs_nonneg (a 0)).trans (Finset.le_sup (f := fun j => max (a j) (-(a j))) (Finset.mem_univ 0))
  have h1 : amax a ≤ (((255 : ℝ) * 2 ^ 120 : ℝ) : EReal) := by
    rw [← ofBits_bf16_max]; exact Finset.sup_le fun j _ => h j
  obtain ⟨r, hr⟩ : ∃ r : ℝ, amax a = r := by
    refine ⟨(amax a).toReal, (EReal.coe_toReal (fun e => ?_) (fun e => ?_)).symm⟩
    · rw [e] at h1; exact absurd (top_le_iff.mp h1) (EReal.coe_ne_top _)
    · rw [e] at h0; exact absurd h0 (by simp)
  unfold quo
  rw [hr] at h0 h1 ⊢
  rw [ofBits_c, ← EReal.coe_mul]
  have h0 : 0 ≤ r := EReal.coe_nonneg.mp h0
  have h1 : r ≤ (255 : ℝ) * 2 ^ 120 := EReal.coe_le_coe_iff.mp h1
  obtain ⟨k, hk⟩ := exists_level (r * (9586981 / 4294967296)) (by norm_num at h1 ⊢; linarith)
  exact ⟨k, hk, EReal.coe_nonneg.mpr (by positivity), EReal.coe_ne_top _⟩

end Cert.Scale

end
-- ==== Proof.KernelQuant.lean ====
module

public import proofs.«01_k».proof.Proof.KernelIdealValue
public import proofs.«01_k».proof.Proof.Scale
public import Idealize.ShloMosaic.Lib.ValueIdxCore
public import Idealize.ShloMosaic.Lib.WordSum

/-! The kernel's codes and scales of a chunk of 64 tokens, at an index. -/

@[expose] public section

noncomputable section

namespace Cert.KernelIdeal.Hand

open Cert.KernelIdeal Cert.KernelIdeal.Gen Idealize.ShloMosaic Idealize.ShloMosaic.TcCoe Idealize.ShloMosaic.ValueIdx
open Cert.Scale

/-- Row `i` of a chunk. -/
def crow (x : Vec Ideal S64x5120 .bf16) (i : Fin 64) : Fin 5120 → EReal := fun j => x (ix2 i j)

theorem pay4_eq (x : Vec Ideal S64x5120 .bf16) : k0_pay4 x = x := by
  unfold k0_pay4; exact shapeCast_self _ _

theorem word_toNat (k : ℕ) (h : k < 256) : IntOp.shli .vector (BitVec.ofNat 32 k) 23#32 = word k := by
  unfold IntOp.shli word; rw [if_pos (by decide)]; rfl

/-- The kernel's row maxima. -/
def kMax (x : FVec Ideal S64x5120 .bf16) : FVec Ideal S64 .bf16 :=
  have v56 : FVec Ideal S64x5120 .bf16 := absf (k0_pay4 x)
  have v57 : FVec Ideal S64 .bf16 := multiReduction .maximumf [1] S64 v56 0xFF80#16 reduces_S64x5120_S64 (.inr rfl) rfl
  v57
/-- The kernel's row quotients. -/
def kQuo (x : FVec Ideal S64x5120 .bf16) : FVec Ideal S64x1 .f32 :=
  mulf (extf .f32 (shapeCast S64x1 (kMax x) shapeCasts_S64_S64x1) bitsLt_bf16_f32) (broadcast S64x1 (FloatOps.ofBits .f32 0x3B124925#32))
/-- The 256 exponent words. -/
def kPat : FVec Ideal S64x256 .f32 :=
  bitcastToFloat .f32 (shli (iota .tc S64x256 32 [1] iota_S64x256_d1_w32) (broadcast S64x256 23#32))
/-- 1 where the word is at most the quotient. -/
def kHit (x : FVec Ideal S64x5120 .bf16) : IVec S64x256 32 :=
  select (cmpf .olt (broadcastTo S64x256 (kQuo x) broadcasts_S64x1_S64x256) kPat) (broadcast S64x256 0#32) (broadcast S64x256 1#32)
/-- How many are. -/
def kCount (x : FVec Ideal S64x5120 .bf16) : IVec S64 32 := multiReductionI .add [1] S64 (kHit x) 0#32 reduces_S64x256_S64 rfl

theorem pay5_eq (x : FVec Ideal S64x5120 .bf16) : k0_pay5 (F := Ideal) x
    = subi (shapeCast S64x1 (kCount x) shapeCasts_S64_S64x1) (broadcast S64x1 1#32) := rfl

/-- A row maximum is the largest magnitude of the row. -/
theorem kMax_at (x : FVec Ideal S64x5120 .bf16) (i : Fin 64) : kMax x (ix1 i) = amax (crow x i) := by
  unfold kMax
  rw [pay4_eq]
  refine (Ideal.multiReduction_maximumf_single (absf x) 0xFF80#16 reduces_S64x5120_S64 (.inr rfl) rfl (ix1 i)).trans ?_
  rw [show (FloatOps.ofBits (F := Ideal) .bf16 0xFF80#16 : EReal) = ⊥ from by
    show Ideal.ofBits .bf16 0xFF80#16 = ⊥
    simp [Ideal.ofBits, Ideal.ieee]]
  unfold amax Finset.sup
  refine Finset.fold_congr fun j _ => ?_
  show FloatOps.absf (x _) = _
  have e : (reduces_S64x5120_S64.lift (ix1 i) j : S64x5120.Idx) = ix2 i j := by
    funext a; match a with
    | ⟨0, _⟩ => rfl
    | ⟨1, _⟩ => rfl
  rw [e]; rfl

theorem pay5_at (x : Vec Ideal S64x5120 .bf16) (i : Fin 64) (n : ℕ) (hl : Level (quo (crow x i)) n)
    (h0 : 0 ≤ quo (crow x i)) (h1 : quo (crow x i) ≠ ⊤) (z : Fin 1) :
    k0_pay5 (F := Ideal) x (ix2 i z) = BitVec.ofNat 32 n := by
  have hb := hl.1
  have e58 : ∀ z, shapeCast S64x1 (kMax x) shapeCasts_S64_S64x1 (ix2 i z) = amax (crow x i) := fun z =>
    (shapeCast_apply (kMax x) shapeCasts_S64_S64x1 (ix2 i z) (ix1 i) (by
      rw [Shape.rowMajor_val_one, Shape.rowMajor_val_two]; show i.val = i.val * 1 + z.val; omega)).trans (kMax_at x i)
  have e61 : ∀ z, kQuo x (ix2 i z) = quo (crow x i) := fun z => by
    unfold quo kQuo
    rw [← e58 z]
    generalize shapeCast S64x1 (kMax x) shapeCasts_S64_S64x1 = y
    generalize (0x3B124925#32 : BitVec 32) = w
    rfl
  have e66 : ∀ k, broadcastTo S64x256 (kQuo x) broadcasts_S64x1_S64x256 (ix2 i k) = quo (crow x i) := fun k =>
    (broadcastTo_apply (kQuo x) broadcasts_S64x1_S64x256 (ix2 i k) (ix2 i 0) (fun a => by
      match a with
      | ⟨0, _⟩ => rfl
      | ⟨1, _⟩ => rfl)).trans (e61 0)
  have e65 : ∀ k : Fin 256, kPat (ix2 i k) = Ideal.ofBits .f32 (word k.val) := fun k => by
    show Ideal.ofBits .f32 (IntOp.shli .vector (iota .tc S64x256 32 [1] iota_S64x256_d1_w32 (ix2 i k)) 23#32) = _
    rw [iota_single_apply]
    exact congrArg _ (word_toNat _ k.isLt)
  have e70 : ∀ k : Fin 256, (kHit x (ix2 i k)).toNat = if ¬ quo (crow x i) < Ideal.ofBits .f32 (word k.val) then 1 else 0 := fun k => by
    show (Scalar.select (FloatOps.cmpf .olt (broadcastTo S64x256 (kQuo x) broadcasts_S64x1_S64x256 (ix2 i k)) (kPat (ix2 i k))) 0#32 1#32).toNat = _
    rw [e66, e65]
    show (Scalar.select (BitVec.ofBool (decide (_ < _))) 0#32 1#32).toNat = _
    by_cases hc : quo (crow x i) < Ideal.ofBits .f32 (word k.val)
    · rw [decide_eq_true hc, if_neg (not_not.mpr hc)]; rfl
    · rw [decide_eq_false hc, if_pos hc]; rfl
  have e : ∑ w ∈ Finset.univ.filter (fun w => reduces_S64x256_S64.drop w = ix1 i), (kHit x w).toNat = n + 1 := by
    rw [Shape.Reduces.sum_filter_drop_single reduces_S64x256_S64 (fun w => (kHit x w).toNat) (ix1 i)]
    rw [← card_level _ n h0 h1 hl, Finset.card_filter]
    refine Finset.sum_congr rfl fun k _ => ?_
    have ek : (reduces_S64x256_S64.lift (ix1 i) k : S64x256.Idx) = ix2 i k := by
      funext a; match a with
      | ⟨0, _⟩ => rfl
      | ⟨1, _⟩ => rfl
    rw [ek]; exact e70 k
  have e71 : (kCount x) (ix1 i) = BitVec.ofNat 32 (n + 1) := by
    apply BitVec.eq_of_toNat_eq
    rw [show ((kCount x) (ix1 i)).toNat = n + 1 from (WordSum.toNat_multiReductionI_add (kHit x) reduces_S64x256_S64 rfl (ix1 i) (by rw [e]; omega)).trans e]
    rw [BitVec.toNat_ofNat]; omega
  have e72 : shapeCast S64x1 (kCount x) shapeCasts_S64_S64x1 (ix2 i z) = BitVec.ofNat 32 (n + 1) :=
    (shapeCast_apply (kCount x) shapeCasts_S64_S64x1 (ix2 i z) (ix1 i) (by
      rw [Shape.rowMajor_val_one, Shape.rowMajor_val_two]; show i.val = i.val * 1 + z.val; omega)).trans e71
  show shapeCast S64x1 (kCount x) shapeCasts_S64_S64x1 (ix2 i z) - 1#32 = _
  rw [e72]
  apply BitVec.eq_of_toNat_eq
  rw [BitVec.toNat_sub, BitVec.toNat_ofNat, BitVec.toNat_ofNat, BitVec.toNat_ofNat]; omega

theorem pay6_at (x : Vec Ideal S64x5120 .bf16) (i : Fin 64) (n : ℕ) (hl : Level (quo (crow x i)) n)
    (h0 : 0 ≤ quo (crow x i)) (h1 : quo (crow x i) ≠ ⊤) (z : Fin 1) :
    k0_pay6 (F := Ideal) x (ix2 i z) = BitVec.ofBool (decide (n = 0)) := by
  have hb := hl.1
  unfold k0_pay6
  show BitVec.ofBool (k0_pay5 (F := Ideal) x (ix2 i z) == 0#32) = _
  rw [pay5_at x i n hl h0 h1]
  congr 1
  rw [Bool.eq_iff_iff, beq_iff_eq, decide_eq_true_iff]
  constructor
  · intro h
    have := congrArg BitVec.toNat h
    rw [BitVec.toNat_ofNat, BitVec.toNat_ofNat] at this; omega
  · rintro rfl; rfl

theorem sel_word (p : Prop) [Decidable p] (a b : BitVec 32) : Scalar.select (BitVec.ofBool (decide p)) a b = if p then a else b := by
  by_cases h : p
  · rw [decide_eq_true h, if_pos h]; rfl
  · rw [decide_eq_false h, if_neg h]; rfl

theorem chunkScales_at (x : Vec Ideal S64x5120 .bf16) (i : Fin 64) (n : ℕ) (hl : Level (quo (crow x i)) n)
    (h0 : 0 ≤ quo (crow x i)) (h1 : quo (crow x i) ≠ ⊤) (z : Fin 1) :
    chunkScales (F := Ideal) x (ix2 z i) = sc n := by
  have hb := hl.1
  have e80 : ∀ z, k0_pay7 (F := Ideal) x (ix2 i z) = BitVec.ofNat 32 (if n = 0 then 127 else n + 1) := fun z => by
    unfold k0_pay7
    show Scalar.select (k0_pay6 (F := Ideal) x (ix2 i z)) 127#32 (k0_pay5 (F := Ideal) x (ix2 i z) + 1#32) = _
    rw [pay6_at x i n hl h0 h1, pay5_at x i n hl h0 h1, sel_word]
    split
    · rfl
    · rw [BitVec.ofNat_add]
  unfold chunkScales k0_pay10
  refine (extractStridedSlice_apply ![0, 0] _ slices_S128x64_o0_0_S1x64 (ix2 z i) (ix2 ⟨0, by decide⟩ i) (fun a => by
      match a with
      | ⟨0, _⟩ => show 0 = 0 + z.val; omega
      | ⟨1, _⟩ => show i.val = 0 + i.val; omega)).trans ?_
  refine (transpose_apply [1, 0] _ transposes_S64x128_p1_0_S128x64 (ix2 ⟨0, by decide⟩ i) (ix2 i ⟨0, by decide⟩) (fun a => by
      match a with
      | ⟨0, _⟩ => rfl
      | ⟨1, _⟩ => rfl)).trans ?_
  refine (broadcastTo_apply _ broadcasts_S64x1_S64x128 (ix2 i ⟨0, by decide⟩) (ix2 i 0) (fun a => by
      match a with
      | ⟨0, _⟩ => rfl
      | ⟨1, _⟩ => rfl)).trans ?_
  rw [shapeCast_self]
  show Ideal.ofBits .f32 (IntOp.shli .vector (k0_pay7 (F := Ideal) x (ix2 i 0)) 23#32) = _
  rw [e80, word_toNat _ (by split <;> omega), sc_word n hb]

/-- A code before its rounding to fp8 (which is the identity here). -/
def code (x : EReal) (n : ℕ) : EReal := min (Ideal.ofBits .f32 0x43E00000#32) (max (Ideal.ofBits .f32 0xC3E00000#32) (x * isc n))

theorem chunkCodes_at (x : Vec Ideal S64x5120 .bf16) (i : Fin 64) (n : ℕ) (hl : Level (quo (crow x i)) n)
    (h0 : 0 ≤ quo (crow x i)) (h1 : quo (crow x i) ≠ ⊤) (j : Fin 5120) :
    chunkCodes (F := Ideal) x (ix2 i j) = code (x (ix2 i j)) n := by
  have hb := hl.1
  show k0_pay8 (F := Ideal) x (ix2 i j) = _
  have e84 : ∀ z, Scalar.select (k0_pay6 (F := Ideal) x (ix2 i z)) 127#32 (253#32 - k0_pay5 (F := Ideal) x (ix2 i z)) = BitVec.ofNat 32 (if n = 0 then 127 else 253 - n) := fun z => by
    rw [pay6_at x i n hl h0 h1, pay5_at x i n hl h0 h1, sel_word]
    split
    · rfl
    · apply BitVec.eq_of_toNat_eq
      rw [BitVec.toNat_sub, BitVec.toNat_ofNat, BitVec.toNat_ofNat, BitVec.toNat_ofNat]; omega
  unfold k0_pay8
  rw [pay4_eq]
  refine congrArg (fun y => min (Ideal.ofBits .f32 0x43E00000#32) (max (Ideal.ofBits .f32 0xC3E00000#32) (x (ix2 i j) * y))) ?_
  refine (broadcastTo_apply _ broadcasts_S64x1_S64x5120 (ix2 i j) (ix2 i 0) (fun a => by
      match a with
      | ⟨0, _⟩ => rfl
      | ⟨1, _⟩ => rfl)).trans ?_
  show Ideal.ofBits .f32 (IntOp.shli .vector (Scalar.select (k0_pay6 (F := Ideal) x (ix2 i 0)) 127#32 (253#32 - k0_pay5 (F := Ideal) x (ix2 i 0))) 23#32) = _
  rw [e84, word_toNat _ (by split <;> omega), isc_word n hb]

end Cert.KernelIdeal.Hand

end
-- ==== Proof.KernelBlocks.lean ====
module

public import proofs.«01_k».proof.Proof.KernelIdealValue
public import Idealize.ShloMosaic.Lib.ValueIdxCore

/-! The blocks the kernel's grid points read, at an index of the arguments. -/

@[expose] public section

noncomputable section

namespace Cert.KernelIdeal.Hand

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

theorem idx_0 (t : Fin cfg0.N) : win0_0.index t 0 = 0 ∧ win0_0.index t 1 = 0 := by
  rcases fin_N0 t with rfl | rfl | rfl | rfl <;> decide
theorem idx_1 (t : Fin cfg0.N) : win0_1.index t 0 = t.val ∧ win0_1.index t 1 = 0 := by
  rcases fin_N0 t with rfl | rfl | rfl | rfl <;> decide
theorem idx_2 (t : Fin cfg0.N) : win0_2.index t 0 = t.val ∧ win0_2.index t 1 = 0 := by
  rcases fin_N0 t with rfl | rfl | rfl | rfl <;> decide
theorem idx_3 (t : Fin cfg0.N) : win0_3.index t 0 = 0 ∧ win0_3.index t 1 = 0 := by
  rcases fin_N0 t with rfl | rfl | rfl | rfl <;> decide

theorem N_eq : cfg0.N = 4 := N_0

/-- Token `r`'s activations. -/
theorem block_0 (c : Dev nD) (t : Fin cfg0.N) (b : Fin 2) (s : Fin 256) (r : Fin 512) (hr : r.val = 256 * b.val + s.val) (k : Fin 5120) :
    (iblk m c 0 t : Vec F S512x5120 .bf16) (ix2 r k) = m ((c : Thread nD τ).loc main_arg0) (ix3 b s k) := by
  have hi := idx_0 t
  unfold iblk
  rw [View.read_apply]
  show V m c main_v0 _ = _
  rw [V_main_v0]
  refine shapeCast_apply _ shapeCasts_S2x256x5120_S512x5120 _ (ix3 b s k) ?_
  rw [Shape.rowMajor_val_three, Shape.rowMajor_val_two]
  show (b.val * 256 + s.val) * 5120 + k.val = (win0_0.index t 0 * 512 + 1 * r.val) * 5120 + (win0_0.index t 1 * 5120 + 1 * k.val)
  rw [hi.1, hi.2]; omega

/-- Row `992 t + v` of the weights. -/
theorem block_1 (c : Dev nD) (t : Fin cfg0.N) (v : Fin 992) (k : Fin 5120) (v' : Fin 3968) (hv : v'.val = 992 * t.val + v.val) :
    (iblk m c 1 t : Vec F S992x5120 .fp8e4m3) (ix2 v k) = m ((c : Thread nD τ).loc main_arg1) (ix2 v' k) := by
  have hi := idx_1 t
  refine Eq.trans ?_ (congrFun (V_main_arg1 m c) (ix2 v' k))
  unfold iblk
  rw [View.read_apply]
  show V m c main_arg1 _ = _
  congr 1
  funext a; apply Fin.ext
  match a with
  | ⟨0, _⟩ => show win0_1.index t 0 * 992 + 1 * v.val = v'.val; rw [hi.1]; omega
  | ⟨1, _⟩ => show win0_1.index t 1 * 5120 + 1 * k.val = k.val; rw [hi.2]; omega

/-- Its scale. -/
theorem block_2 (c : Dev nD) (t : Fin cfg0.N) (v : Fin 992) (z z' : Fin 1) (v' : Fin 3968) (hv : v'.val = 992 * t.val + v.val) :
    (iblk m c 2 t : Vec F S992x1 .f32) (ix2 v z) = m ((c : Thread nD τ).loc main_arg2) (ix2 v' z') := by
  have hi := idx_2 t
  refine Eq.trans ?_ (congrFun (V_main_arg2 m c) (ix2 v' z'))
  unfold iblk
  rw [View.read_apply]
  show V m c main_arg2 _ = _
  congr 1
  funext a; apply Fin.ext
  match a with
  | ⟨0, _⟩ => show win0_2.index t 0 * 992 + 1 * v.val = v'.val; rw [hi.1]; omega
  | ⟨1, _⟩ => show win0_2.index t 1 * 1 + 1 * z.val = z'.val; rw [hi.2]; omega

/-- Token `r`'s label. -/
theorem block_3 (c : Dev nD) (t : Fin cfg0.N) (b : Fin 2) (s : Fin 256) (r : Fin 512) (hr : r.val = 256 * b.val + s.val) (z : Fin 1) :
    (iblk m c 3 t : Vec F S1x512 .i32) (ix2 z r) = m ((c : Thread nD τ).loc main_arg3) (ix2 b s) := by
  have hi := idx_3 t
  unfold iblk
  rw [View.read_apply]
  show V m c main_v1 _ = _
  rw [V_main_v1]
  refine shapeCast_apply _ shapeCasts_S2x256_S1x512 _ (ix2 b s) ?_
  rw [Shape.rowMajor_val_two, Shape.rowMajor_val_two]
  show b.val * 256 + s.val = (win0_3.index t 0 * 1 + 1 * z.val) * 512 + (win0_3.index t 1 * 512 + 1 * r.val)
  rw [hi.1, hi.2]; omega

end Cert.KernelIdeal.Hand

end
-- ==== Proof.KernelTokens.lean ====
module

public import proofs.«01_k».proof.Proof.KernelQuant
public import proofs.«01_k».proof.Proof.KernelBlocks

/-! The kernel's scale and codes of a token, from the token's activations. -/

@[expose] public section

noncomputable section

namespace Cert.KernelIdeal.Hand

open Cert.KernelIdeal Cert.KernelIdeal.Gen Idealize.ShloMosaic Idealize.ShloMosaic.TcCoe Idealize.ShloMosaic.ValueIdx Idealize.SL.Sem
open Cert.Scale

section Rows
variable (x : Vec Ideal S512x5120 .bf16) (r : Fin 512)

theorem chunk_row (k : Fin 5120) : chunk x ⟨r.val / 64, by omega⟩ (ix2 ⟨r.val % 64, by omega⟩ k) = x (ix2 r k) := by
  unfold chunk
  congr 1
  funext a; apply Fin.ext
  match a with
  | ⟨0, _⟩ => show 64 * (r.val / 64) + r.val % 64 = r.val; omega
  | ⟨1, _⟩ => rfl

theorem chunk_crow (a : Fin 5120 → EReal) (ha : ∀ k, (x (ix2 r k) : EReal) = a k) : crow (chunk x ⟨r.val / 64, by omega⟩) ⟨r.val % 64, by omega⟩ = a :=
  funext fun k => (chunk_row x r k).trans (ha k)

variable (a : Fin 5120 → EReal) (ha : ∀ k, (x (ix2 r k) : EReal) = a k) (n : ℕ) (hl : Level (quo a) n) (h0 : 0 ≤ quo a) (h1 : quo a ≠ ⊤)
include ha hl h0 h1

theorem scales_row : (scales x (ix2 0 r) : EReal) = sc n := by
  have e := chunk_crow x r a ha
  rw [← e] at hl h0 h1
  exact chunkScales_at _ _ n hl h0 h1 0

theorem codes_row (k : Fin 5120) : (codes x (ix2 r k) : EReal) = code (a k) n := by
  have e := chunk_crow x r a ha
  rw [← e] at hl h0 h1
  refine (chunkCodes_at _ _ n hl h0 h1 k).trans ?_
  rw [chunk_row, ha]

end Rows

end Cert.KernelIdeal.Hand
-- ==== Proof.Online.lean ====
module

public import Idealize.ShloMosaic.PureOps.Ideal
public import Idealize.ShloMosaic.PureOps.Ideal.Laws

/-! The online sum of exponentials over the extended reals: a running maximum and a running sum rescaled at every step end
    at the maximum and the sum of the exponentials of the differences. -/

@[expose] public section

noncomputable section

namespace Cert.Online

open Idealize.ShloMosaic

theorem exp_nonneg (a : EReal) : 0 ≤ Ideal.exp a := by
  induction a with
  | bot => exact le_of_eq rfl
  | top => exact le_top
  | coe r => rw [Ideal.exp_coe]; exact EReal.coe_nonneg.mpr (Real.exp_pos r).le

/-- Going from `c` to `b` to `a` downwards multiplies the exponentials. -/
theorem exp_sub_mul (a b c : EReal) (hab : a ≤ b) (hbc : b ≤ c) :
    Ideal.exp (a - b) * Ideal.exp (b - c) = Ideal.exp (a - c) := by
  induction b with
  | bot =>
    obtain rfl := le_bot_iff.mp hab
    simp
  | top =>
    obtain rfl := top_le_iff.mp hbc
    have h : ∀ x : EReal, x - ⊤ = ⊥ := fun x => by rw [sub_eq_add_neg]; simp
    rw [h ⊤, Ideal.exp_bot, mul_zero, h a, Ideal.exp_bot]
  | coe b =>
    induction c with
    | bot => exact absurd hbc (by simp)
    | top =>
      have h : ∀ x : EReal, x - ⊤ = ⊥ := fun x => by rw [sub_eq_add_neg]; simp
      rw [h, h, Ideal.exp_bot, mul_zero]
    | coe c =>
      induction a with
      | bot => simp
      | top => exact absurd hab (by simp)
      | coe a =>
        rw [← EReal.coe_sub, ← EReal.coe_sub, ← EReal.coe_sub, Ideal.exp_coe, Ideal.exp_coe, Ideal.exp_coe, ← EReal.coe_mul,
          ← Real.exp_add]
        congr 2; ring

theorem sum_mul_nonneg {ι : Type} (S : Finset ι) (f : ι → EReal) (hf : ∀ i, 0 ≤ f i) (c : EReal) :
    (∑ i ∈ S, f i) * c = ∑ i ∈ S, f i * c := by
  classical
  induction S using Finset.induction_on with
  | empty => simp
  | insert i S hi ih =>
    rw [Finset.sum_insert hi, Finset.sum_insert hi, EReal.right_distrib_of_nonneg (hf i) (Finset.sum_nonneg fun j _ => hf j), ih]

/-- The maximum of the first `n` values, from minus infinity. -/
def top (s : ℕ → EReal) (n : ℕ) : EReal := (Finset.range n).sup s
/-- The sum of the exponentials of the first `n` values less their maximum. -/
def mass (s : ℕ → EReal) (n : ℕ) : EReal := ∑ i ∈ Finset.range n, Ideal.exp (s i - top s n)

theorem top_zero (s : ℕ → EReal) : top s 0 = ⊥ := rfl
theorem mass_zero (s : ℕ → EReal) : mass s 0 = 0 := rfl

theorem le_top {s : ℕ → EReal} {n i : ℕ} (h : i < n) : s i ≤ top s n := Finset.le_sup (Finset.mem_range.mpr h)

theorem top_add (s : ℕ → EReal) (n k : ℕ) : top s (n + k) = max (top s n) ((Finset.univ : Finset (Fin k)).sup fun r => s (n + r.val)) := by
  apply le_antisymm
  · refine Finset.sup_le fun i hi => ?_
    rw [Finset.mem_range] at hi
    by_cases h : i < n
    · exact le_trans (le_top h) (le_max_left _ _)
    · refine le_trans ?_ (le_max_right _ _)
      have := Finset.le_sup (f := fun r : Fin k => s (n + r.val)) (Finset.mem_univ ⟨i - n, by omega⟩)
      simpa [Nat.add_sub_cancel' (Nat.le_of_not_lt h)] using this
  · refine max_le (Finset.sup_le fun i hi => ?_) (Finset.sup_le fun r _ => ?_)
    · rw [Finset.mem_range] at hi; exact le_top (by omega)
    · exact le_top (by have := r.isLt; omega)

theorem mass_add (s : ℕ → EReal) (n k : ℕ) : mass s (n + k)
    = mass s n * Ideal.exp (top s n - top s (n + k)) + ∑ r : Fin k, Ideal.exp (s (n + r.val) - top s (n + k)) := by
  have hle : top s n ≤ top s (n + k) := by rw [top_add]; exact le_max_left _ _
  unfold mass
  rw [Finset.sum_range_add, sum_mul_nonneg _ _ (fun i => exp_nonneg _), Finset.sum_range (fun x => Ideal.exp (s (n + x) - top s (n + k)))]
  refine congrArg (· + _) (Finset.sum_congr rfl fun i hi => ?_)
  exact (exp_sub_mul _ _ _ (le_top (Finset.mem_range.mp hi)) hle).symm

/-- The value at the label, taken out by a sum over all values. -/
def pick (s : ℕ → EReal) (lab n : ℕ) : EReal := ∑ i ∈ Finset.range n, if i = lab then s i else 0

theorem pick_add (s : ℕ → EReal) (lab n k : ℕ) : pick s lab (n + k) = pick s lab n + ∑ r : Fin k, if n + r.val = lab then s (n + r.val) else 0 := by
  unfold pick
  rw [Finset.sum_range_add, Finset.sum_range (fun x => if n + x = lab then s (n + x) else 0)]

theorem pick_eq (s : ℕ → EReal) (lab n : ℕ) (h : lab < n) : pick s lab n = s lab := by
  unfold pick
  rw [Finset.sum_ite_eq', if_pos (Finset.mem_range.mpr h)]

end Cert.Online

end
-- ==== Proof.KernelStep.lean ====
module

public import proofs.«01_k».proof.Proof.KernelIdealValue
public import proofs.«01_k».proof.Proof.Online
public import Idealize.ShloMosaic.Lib.ValueIdxCore
public import Idealize.ShloMosaic.Lib.MatmulPlain

/-! One grid point of the kernel at one token: the running maximum, the running sum and the label's logit. -/

@[expose] public section

noncomputable section

namespace Cert.KernelIdeal.Hand

open Cert.KernelIdeal Cert.KernelIdeal.Gen Idealize.ShloMosaic Idealize.ShloMosaic.TcCoe Idealize.ShloMosaic.ValueIdx
open Cert.Online

section Generic
variable {F : FTy → Type} [FloatOps F]

/-- A per-token row repeated down the rows of a block. -/
theorem down {α : Type} (x : S1x512.Idx → α) (v : Fin 992) (r : Fin 512) : broadcastTo S992x512 x broadcasts_S1x512_S992x512 (ix2 v r) = x (ix2 0 r) :=
  broadcastTo_apply x broadcasts_S1x512_S992x512 (ix2 v r) (ix2 0 r) (fun a => by
    match a with
    | ⟨0, _⟩ => rfl
    | ⟨1, _⟩ => rfl)
/-- A per-row column repeated along the tokens. -/
theorem along {α : Type} (x : S992x1.Idx → α) (v : Fin 992) (r : Fin 512) : broadcastTo S992x512 x broadcasts_S992x1_S992x512 (ix2 v r) = x (ix2 v 0) :=
  broadcastTo_apply x broadcasts_S992x1_S992x512 (ix2 v r) (ix2 v 0) (fun a => by
    match a with
    | ⟨0, _⟩ => rfl
    | ⟨1, _⟩ => rfl)
/-- A vector of tokens as a row. -/
theorem asRow {α : Type} (x : S512.Idx → α) (z : Fin 1) (r : Fin 512) : shapeCast S1x512 x shapeCasts_S512_S1x512 (ix2 z r) = x (ix1 r) :=
  shapeCast_apply x shapeCasts_S512_S1x512 (ix2 z r) (ix1 r) (by
    rw [Shape.rowMajor_val_one, Shape.rowMajor_val_two]; show r.val = z.val * 512 + r.val; omega)

theorem pay60_pt (w : Vec F S992x5120 .fp8e4m3) (C : Vec F S512x5120 .fp8e4m3) (X : Vec F S1x512 .f32) (x2 : Vec F S992x1 .f32) (v : Fin 992) (r : Fin 512) :
    k0_pay60 w C X x2 (ix2 v r)
      = FloatOps.mulf (FloatOps.mulf (FloatOps.matmul (DotDims.transposedRhs 992 5120 512) none w C (constant S992x512 .f32 0x00000000#32) (ix2 v r)) (X (ix2 0 r))) (x2 (ix2 v 0)) := by
  rw [← along x2 v r, ← down X v r]
  unfold k0_pay60
  rw [shapeCast_self, shapeCast_self]
  rfl

/-- The largest logit of a block. -/
def rowMax (s : FVec F S992x512 .f32) : FVec F S512 .f32 :=
  multiReduction .maximumf [0] S512 s 0xFF800000#32 reduces_S992x512_S512 (.inl rfl) rfl
/-- A sum over a block. -/
def rowSum (s : FVec F S992x512 .f32) : FVec F S512 .f32 :=
  multiReduction .add [0] S512 s 0x00000000#32 reduces_S992x512_S512 (.inl rfl) rfl

theorem pay62_pt (w : Vec F S992x5120 .fp8e4m3) (C : Vec F S512x5120 .fp8e4m3) (X : Vec F S1x512 .f32) (x2 : Vec F S992x1 .f32) (a : Vec F S1x512 .f32) (r : Fin 512) :
    k0_pay62 w C X x2 a (ix2 0 r) = FloatOps.maximumf (a (ix2 0 r)) (rowMax (k0_pay60 w C X x2) (ix1 r)) := by
  rw [← asRow (rowMax (k0_pay60 w C X x2)) 0 r]
  rfl

/-- The exponentials a block adds. -/
def blockExp (w : Vec F S992x5120 .fp8e4m3) (C : Vec F S512x5120 .fp8e4m3) (X : Vec F S1x512 .f32) (x2 : Vec F S992x1 .f32) (a : Vec F S1x512 .f32) : FVec F S992x512 .f32 :=
  exp (subf (k0_pay60 w C X x2) (broadcastTo S992x512 (k0_pay62 w C X x2 a) broadcasts_S1x512_S992x512))

theorem blockExp_pt (w : Vec F S992x5120 .fp8e4m3) (C : Vec F S512x5120 .fp8e4m3) (X : Vec F S1x512 .f32) (x2 : Vec F S992x1 .f32) (a : Vec F S1x512 .f32) (v : Fin 992) (r : Fin 512) :
    blockExp w C X x2 a (ix2 v r) = FloatOps.exp (FloatOps.subf (k0_pay60 w C X x2 (ix2 v r)) (k0_pay62 w C X x2 a (ix2 0 r))) := by
  rw [← down (k0_pay62 w C X x2 a) v r]
  rfl

theorem pay63_pt (w : Vec F S992x5120 .fp8e4m3) (C : Vec F S512x5120 .fp8e4m3) (X : Vec F S1x512 .f32) (x2 : Vec F S992x1 .f32) (a b : Vec F S1x512 .f32) (r : Fin 512) :
    k0_pay63 w C X x2 a b (ix2 0 r)
      = FloatOps.addf (FloatOps.mulf (b (ix2 0 r)) (FloatOps.exp (FloatOps.subf (a (ix2 0 r)) (k0_pay62 w C X x2 a (ix2 0 r)))))
          (rowSum (blockExp w C X x2 a) (ix1 r)) := by
  rw [← asRow (rowSum (blockExp w C X x2 a)) 0 r]
  unfold k0_pay63
  rw [shapeCast_self]
  rfl

/-- The logits of a block at the labels. -/
def blockPick (s : FVec F S992x512 .f32) (i : IVec S992x512 32) (lab : Vec F S1x512 .i32) : FVec F S992x512 .f32 :=
  select (cmpi .eq i (broadcastTo S992x512 lab broadcasts_S1x512_S992x512)) s (broadcast S992x512 (FloatOps.ofBits .f32 0x00000000#32))

theorem blockPick_pt (s : FVec F S992x512 .f32) (i : IVec S992x512 32) (lab : Vec F S1x512 .i32) (v : Fin 992) (r : Fin 512) :
    blockPick s i lab (ix2 v r) = Scalar.select (BitVec.ofBool (i (ix2 v r) == lab (ix2 0 r))) (s (ix2 v r)) (FloatOps.ofBits .f32 0x00000000#32) := by
  rw [← down lab v r]
  rfl

theorem pay2_pt (s : FVec F S992x512 .f32) (i : IVec S992x512 32) (d : Vec F S1x512 .f32) (lab : Vec F S1x512 .i32) (r : Fin 512) :
    k0_pay2 s i d lab (ix2 0 r) = FloatOps.addf (d (ix2 0 r)) (rowSum (blockPick s i lab) (ix1 r)) := by
  rw [← asRow (rowSum (blockPick s i lab)) 0 r]
  unfold k0_pay2
  rw [shapeCast_self, shapeCast_self]
  rfl

theorem pay61_pt (i : grid0.Coords) (v : Fin 992) (r : Fin 512) :
    k0_pay61 i (ix2 v r) = BitVec.ofNat 32 v.val + BitVec.ofNat 32 (i 0).val * 992#32 := by
  unfold k0_pay61
  rw [← iota_single_apply .tc S992x512 32 0 iota_S992x512_d0_w32 (ix2 v r)]
  rfl

theorem pay3_pt (a b d : Vec F S1x512 .f32) (y : S1x512.Idx) :
    k0_pay3 a b d y = FloatOps.subf (FloatOps.subf (FloatOps.addf (a y) (FloatOps.log (b y))) (d y)) (FloatOps.ofBits .f32 0x41049387#32) := rfl

theorem pay57_pt (y : S1x512.Idx) : k0_pay57 (F := F) y = FloatOps.ofBits .f32 0xFF800000#32 := by
  unfold k0_pay57; rw [shapeCast_self]; rfl
theorem pay58_pt (y : S1x512.Idx) : k0_pay58 (F := F) y = FloatOps.ofBits .f32 0x00000000#32 := by
  unfold k0_pay58; rw [shapeCast_self]; rfl
theorem pay59_pt (y : S1x512.Idx) : k0_pay59 (F := F) y = FloatOps.ofBits .f32 0x00000000#32 := by
  unfold k0_pay59; rw [shapeCast_self]; rfl

end Generic

theorem iMul (x y : EReal) : FloatOps.mulf (F := Ideal) (φ := .f32) x y = x * y := rfl
theorem iAdd (x y : EReal) : FloatOps.addf (F := Ideal) (φ := .f32) x y = x + y := rfl
theorem iSub (x y : EReal) : FloatOps.subf (F := Ideal) (φ := .f32) x y = x - y := rfl
theorem iMax (x y : EReal) : FloatOps.maximumf (F := Ideal) (φ := .f32) x y = max x y := rfl
theorem iExp (x : EReal) : FloatOps.exp (F := Ideal) (φ := .f32) x = Ideal.exp x := rfl
theorem iLog (x : EReal) : FloatOps.log (F := Ideal) (φ := .f32) x = Ideal.log x := rfl
theorem negInf : Ideal.ofBits .f32 0xFF800000#32 = ⊥ := by simp [Ideal.ofBits, Ideal.ieee]

theorem lift_at (v : Fin 992) (r : Fin 512) : (reduces_S992x512_S512.lift (ix1 r) v : S992x512.Idx) = ix2 v r := by
  funext a; match a with
  | ⟨0, _⟩ => rfl
  | ⟨1, _⟩ => rfl

theorem rowMax_at (s : FVec Ideal S992x512 .f32) (r : Fin 512) :
    rowMax s (ix1 r) = (Finset.univ : Finset (Fin 992)).sup fun v => (s (ix2 v r) : EReal) := by
  unfold rowMax
  refine (Ideal.multiReduction_maximumf_single s 0xFF800000#32 reduces_S992x512_S512 (.inl rfl) rfl (ix1 r)).trans ?_
  rw [Ideal.ofBits_def, negInf]
  unfold Finset.sup
  exact Finset.fold_congr fun v _ => congrArg s (lift_at v r)

theorem rowSum_at (s : FVec Ideal S992x512 .f32) (r : Fin 512) :
    rowSum s (ix1 r) = ∑ v : Fin 992, (s (ix2 v r) : EReal) := by
  unfold rowSum
  refine (Ideal.multiReduction_add_single s 0x00000000#32 reduces_S992x512_S512 (.inl rfl) rfl (ix1 r)).trans ?_
  exact Finset.sum_congr rfl fun v _ => congrArg s (lift_at v r)

/-- A logit of the kernel. -/
theorem pay60_at (w : Vec Ideal S992x5120 .fp8e4m3) (C : Vec Ideal S512x5120 .fp8e4m3) (X : Vec Ideal S1x512 .f32) (x2 : Vec Ideal S992x1 .f32) (v : Fin 992) (r : Fin 512) :
    k0_pay60 w C X x2 (ix2 v r) = ((∑ k : Fin 5120, (w (ix2 v k) * C (ix2 r k) : EReal)) * X (ix2 0 r)) * x2 (ix2 v 0) := by
  rw [pay60_pt, iMul, iMul, Ideal.matmul_transposedRhs_apply, show (constant (F := Ideal) S992x512 .f32 0x00000000#32 (ix2 v r) : EReal) = 0 from Ideal.ofBits_zero_f32, zero_add]

/-- One grid point carries the state at the first `n` logits to the state at the first `n + 992`. -/
theorem step_at (i : grid0.Coords) (w : Vec Ideal S992x5120 .fp8e4m3) (C : Vec Ideal S512x5120 .fp8e4m3) (X : Vec Ideal S1x512 .f32) (x2 : Vec Ideal S992x1 .f32)
    (x3 : Vec Ideal S1x512 .i32) (a b d : Vec Ideal S1x512 .f32) (r : Fin 512) (s : ℕ → EReal) (n lab : ℕ)
    (hs : ∀ v : Fin 992, k0_pay60 w C X x2 (ix2 v r) = s (n + v.val))
    (hp : ∀ v : Fin 992, (k0_pay61 i (ix2 v r) == x3 (ix2 0 r)) = decide (n + v.val = lab))
    (ha : a (ix2 0 r) = top s n) (hb : b (ix2 0 r) = mass s n) (hd : d (ix2 0 r) = pick s lab n) :
    maxNext w C X x2 a (ix2 0 r) = top s (n + 992) ∧ sumNext w C X x2 a b (ix2 0 r) = mass s (n + 992)
      ∧ labNext i w C X x2 x3 d (ix2 0 r) = pick s lab (n + 992) := by
  have hm : k0_pay62 w C X x2 a (ix2 0 r) = top s (n + 992) := by
    rw [pay62_pt, iMax, rowMax_at, ha, top_add]
    exact congrArg _ (Finset.sup_congr rfl fun v _ => hs v)
  refine ⟨?_, ?_, ?_⟩
  · unfold maxNext k0_pay1
    rw [shapeCast_self]; exact hm
  · unfold sumNext
    rw [pay63_pt, iAdd, iMul, iExp, iSub, rowSum_at, hm, ha, hb, mass_add]
    refine congrArg _ (Finset.sum_congr rfl fun v _ => ?_)
    rw [blockExp_pt, iExp, iSub, hm, hs]
  · unfold labNext
    rw [pay2_pt, iAdd, rowSum_at, hd, pick_add]
    refine congrArg _ (Finset.sum_congr rfl fun v _ => ?_)
    rw [blockPick_pt, hp, hs, Ideal.ofBits_def, Ideal.ofBits_zero_f32]
    by_cases h : n + v.val = lab
    · rw [decide_eq_true h, if_pos h]; rfl
    · rw [decide_eq_false h, if_neg h]; rfl

end Cert.KernelIdeal.Hand

end
-- ==== Proof.KernelLoss.lean ====
module

public import proofs.«01_k».proof.Proof.KernelStep
public import proofs.«01_k».proof.Proof.KernelBlocks

/-! The kernel's loss at a token: the logsumexp of its logits less the label's, after the four vocabulary blocks. -/

@[expose] public section

noncomputable section

namespace Cert.KernelIdeal.Hand

open Cert.KernelIdeal Cert.KernelIdeal.Gen Idealize.ShloMosaic Idealize.ShloMosaic.TcCoe Idealize.ShloMosaic.ValueIdx Idealize.SL.Sem
open Cert.Online

variable (m : (ℓ : Loc nD τ sig) → Buf (Elt Ideal) ℓ)

/-- One logit, from the weights, the codes, the scales and the weights' scales. -/
def logitOf (w : FVec Ideal S3968x5120 .fp8e4m3) (C : FVec Ideal S512x5120 .fp8e4m3) (X : FVec Ideal S1x512 .f32) (x2 : FVec Ideal S3968x1 .f32) (r : Fin 512) (v : Fin 3968) : EReal :=
  ((∑ k : Fin 5120, (w (ix2 v k) : EReal) * C (ix2 r k)) * X (ix2 0 r)) * x2 (ix2 v 0)
/-- Token `r`'s logit of vocabulary entry `v`. -/
def klogit (c : Dev nD) (r : Fin 512) (v : Fin 3968) : EReal :=
  logitOf (m ((c : Thread nD τ).loc main_arg1)) (codesOf m c) (scalesOf m c) (m ((c : Thread nD τ).loc main_arg2)) r v
/-- The same as a sequence. -/
def kseq (c : Dev nD) (r : Fin 512) (n : ℕ) : EReal := if h : n < 3968 then klogit m c r ⟨n, h⟩ else 0

theorem coords_val (t : Fin cfg0.N) : (grid0.coords t 0).val = t.val := by
  rcases fin_N0 t with rfl | rfl | rfl | rfl <;> decide

theorem block_logit (c : Dev nD) (t : Fin cfg0.N) (r : Fin 512) (v : Fin 992) :
    k0_pay60 (iblk m c 1 t) (codesOf m c) (scalesOf m c) (iblk m c 2 t) (ix2 v r) = kseq m c r (992 * t.val + v.val) := by
  have hN : t.val < 4 := lt_of_lt_of_eq t.isLt N_eq
  have hv : 992 * t.val + v.val < 3968 := by have := v.isLt; omega
  refine (pay60_at (iblk m c 1 t) (codesOf m c) (scalesOf m c) (iblk m c 2 t) v r).trans ?_
  unfold kseq
  rw [dif_pos hv]
  unfold klogit logitOf
  exact congrArg₂ (fun a b : EReal => a * scalesOf m c (ix2 0 r) * b)
    (Finset.sum_congr rfl fun k _ => congrArg (fun a : EReal => a * codesOf m c (ix2 r k)) (block_1 m c t v k ⟨_, hv⟩ rfl))
    (block_2 m c t v 0 0 ⟨_, hv⟩ rfl)

theorem block_label (i : grid0.Coords) (t : ℕ) (hi : (i 0).val = t) (ht : t < 4) (v : Fin 992) (r : Fin 512) (l : BitVec 32) :
    (k0_pay61 i (ix2 v r) == l) = decide (992 * t + v.val = l.toNat) := by
  rw [pay61_pt, hi]
  have hv := v.isLt
  have e : (BitVec.ofNat 32 v.val + BitVec.ofNat 32 t * 992#32).toNat = 992 * t + v.val := by
    rw [BitVec.toNat_add, BitVec.toNat_mul, BitVec.toNat_ofNat, BitVec.toNat_ofNat, BitVec.toNat_ofNat]
    omega
  rw [← e, beq_eq_decide]
  exact decide_eq_decide.mpr BitVec.toNat_inj.symm

theorem st_at (c : Dev nD) (r : Fin 512) (l : BitVec 32) (hl : ∀ t : Fin cfg0.N, (iblk m c 3 t : Vec Ideal S1x512 .i32) (ix2 0 r) = l) (n : ℕ) (hn : n ≤ 4) :
    ((st m c n).1 (ix2 0 r) : EReal) = top (kseq m c r) (992 * n) ∧ ((st m c n).2.1 (ix2 0 r) : EReal) = mass (kseq m c r) (992 * n)
      ∧ ((st m c n).2.2 (ix2 0 r) : EReal) = pick (kseq m c r) l.toNat (992 * n) := by
  induction n with
  | zero =>
    rw [st_zero]
    refine ⟨?_, ?_, ?_⟩
    · show k0_pay57 (F := Ideal) (ix2 0 r) = _
      rw [pay57_pt, Ideal.ofBits_def, negInf]; rfl
    · show k0_pay58 (F := Ideal) (ix2 0 r) = _
      rw [pay58_pt, Ideal.ofBits_def, Ideal.ofBits_zero_f32]; rfl
    · show k0_pay59 (F := Ideal) (ix2 0 r) = _
      rw [pay59_pt, Ideal.ofBits_def, Ideal.ofBits_zero_f32]; rfl
  | succ n ih =>
    have hN : n < cfg0.N := lt_of_lt_of_eq (by omega) N_eq.symm
    obtain ⟨h1, h2, h3⟩ := ih (by omega)
    have hs := st_succ m c ⟨n, hN⟩
    have := step_at (grid0.coords ⟨n, hN⟩) (iblk m c 1 ⟨n, hN⟩) (codesOf m c) (scalesOf m c) (iblk m c 2 ⟨n, hN⟩) (iblk m c 3 ⟨n, hN⟩)
      (st m c n).1 (st m c n).2.1 (st m c n).2.2 r (kseq m c r) (992 * n) l.toNat
      (fun v => block_logit m c ⟨n, hN⟩ r v)
      (fun v => by rw [hl ⟨n, hN⟩]; exact block_label _ n (coords_val ⟨n, hN⟩) (by omega) v r l)
      h1 h2 h3
    rw [show n + 1 = (⟨n, hN⟩ : Fin cfg0.N).val + 1 from rfl, hs]
    exact this

theorem loss_at (c : Dev nD) (r : Fin 512) (l : BitVec 32) (hl : ∀ t : Fin cfg0.N, (iblk m c 3 t : Vec Ideal S1x512 .i32) (ix2 0 r) = l) (h : l.toNat < 3968) :
    (lossOf m c 4 (ix2 0 r) : EReal)
      = ((Ideal.log (∑ v : Fin 3968, Ideal.exp (klogit m c r v - (Finset.univ : Finset (Fin 3968)).sup (klogit m c r)))
          + (Finset.univ : Finset (Fin 3968)).sup (klogit m c r))
          - klogit m c r ⟨l.toNat, h⟩) - Ideal.ofBits .f32 0x41049387#32 := by
  obtain ⟨h1, h2, h3⟩ := st_at m c r l hl 4 le_rfl
  have hk : ∀ v : Fin 3968, kseq m c r v.val = klogit m c r v := fun v => dif_pos v.isLt
  have ht : top (kseq m c r) (992 * 4) = (Finset.univ : Finset (Fin 3968)).sup (klogit m c r) := by
    have := top_add (kseq m c r) 0 3968
    rw [top_zero, Nat.zero_add] at this
    refine this.trans ((max_eq_right bot_le).trans (Finset.sup_congr rfl fun v _ => ?_))
    rw [Nat.zero_add]; exact hk v
  have hm : mass (kseq m c r) (992 * 4) = ∑ v : Fin 3968, Ideal.exp (klogit m c r v - (Finset.univ : Finset (Fin 3968)).sup (klogit m c r)) := by
    unfold mass
    rw [ht]
    refine (Finset.sum_range (n := 3968) _).trans (Finset.sum_congr rfl fun v _ => ?_)
    rw [hk]
  rw [hm] at h2; rw [ht] at h1
  rw [pick_eq _ _ (992 * 4) (by omega), show kseq m c r l.toNat = klogit m c r ⟨l.toNat, h⟩ from dif_pos h] at h3
  unfold lossOf
  rw [pay3_pt, iSub, iSub, iAdd, iLog, h1, h2, h3, Ideal.ofBits_def, add_comm (Finset.sup _ _)]

end Cert.KernelIdeal.Hand
-- ==== Proof.RefRead.lean ====
module

public import proofs.«01_k».proof.Proof.Gen.ReferenceIdeal.Frame
public import Idealize.ShloMosaic.Lib.Pipeline.FrameSuffix
public import Idealize.ShloMosaic.Lib.Pipeline.Value
public import Idealize.ShloMosaic.Lib.Claim
public import Idealize.ShloMosaic.PureOps.Ideal.Laws

/-! The reference's host operations one at a time: the exponent and the codes before its product, the loss after it. Each
    operation is a named stage read at an index from the stages before it. -/

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- %34 = stablehlo.reshape %33 : (tensor<512x3968xf32>) -> tensor<2x256x3968xf32>
def val_main_v34 (r0 : (⟨S512x3968, .f32⟩ : BufTy).Contents (Elt F)) : (⟨S2x256x3968, .f32⟩ : BufTy).Contents (Elt F) :=
  shapeCast _ (r0) shapeCasts_S512x3968_S2x256x3968
set_option backward.proofsInPublic true in
abbrev idx_main_v34 (i : S2x256x3968.Idx) : S512x3968.Idx := fun a => match a with
  | ⟨0, _⟩ => ⟨(((i 0).val * 256 + (i 1).val) * 3968 + (i 2).val) / 3968, by have h0 : (i 0).val < 2 := (i 0).isLt; have h1 : (i 1).val < 256 := (i 1).isLt; have h2 : (i 2).val < 3968 := (i 2).isLt; show (((i 0).val * 256 + (i 1).val) * 3968 + (i 2).val) / 3968 < 512; omega⟩
  | ⟨1, _⟩ => ⟨(((i 0).val * 256 + (i 1).val) * 3968 + (i 2).val) % 3968, by have h0 : (i 0).val < 2 := (i 0).isLt; have h1 : (i 1).val < 256 := (i 1).isLt; have h2 : (i 2).val < 3968 := (i 2).isLt; show (((i 0).val * 256 + (i 1).val) * 3968 + (i 2).val) % 3968 < 3968; omega⟩
theorem val_main_v34_apply (r0 : (⟨S512x3968, .f32⟩ : BufTy).Contents (Elt F)) (i : S2x256x3968.Idx) :
    val_main_v34 (F := F) r0 i = r0 (idx_main_v34 i) := by
  unfold val_main_v34
  exact shapeCast_apply r0 shapeCasts_S512x3968_S2x256x3968 i (idx_main_v34 i)
    (by rewrite [Shape.rowMajor_val_two, Shape.rowMajor_val_three]; have h0 : (i 0).val < 2 := (i 0).isLt; have h1 : (i 1).val < 256 := (i 1).isLt; have h2 : (i 2).val < 3968 := (i 2).isLt; show (((i 0).val * 256 + (i 1).val) * 3968 + (i 2).val) / 3968 * 3968 + (((i 0).val * 256 + (i 1).val) * 3968 + (i 2).val) % 3968 = ((i 0).val * 256 + (i 1).val) * 3968 + (i 2).val; omega)

-- %35 = stablehlo.broadcast_in_dim %24, dims = [0, 1, 2] : (tensor<2x256x1xf32>) -> tensor<2x256x3968xf32>
def val_main_v35 (e0 : (⟨S2x256x1, .f32⟩ : BufTy).Contents (Elt F)) : (⟨S2x256x3968, .f32⟩ : BufTy).Contents (Elt F) :=
  broadcastInDim S2x256x3968 ![0, 1, 2] bcast_S2x256x1_S2x256x3968_0_1_2 (e0)
abbrev idx_main_v35 (i : S2x256x3968.Idx) : S2x256x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v35_apply (e0 : (⟨S2x256x1, .f32⟩ : BufTy).Contents (Elt F)) (i : S2x256x3968.Idx) :
    val_main_v35 (F := F) e0 i = e0 (idx_main_v35 i) := by
  unfold val_main_v35
  exact broadcastInDim_apply _ bcast_S2x256x1_S2x256x3968_0_1_2 e0 i (idx_main_v35 i) (fun a => match a with
    | ⟨0, _⟩ => by show (i 0).val = if (2 : Nat) = 1 then 0 else (i 0).val; rw [if_neg (by decide)]
    | ⟨1, _⟩ => by show (i 1).val = if (256 : Nat) = 1 then 0 else (i 1).val; rw [if_neg (by decide)]
    | ⟨2, _⟩ => by show 0 = if (1 : Nat) = 1 then 0 else (i 2).val; rw [if_pos rfl])

-- %36 = stablehlo.multiply %34, %35 : tensor<2x256x3968xf32>
def val_main_v36 (r0 : (⟨S512x3968, .f32⟩ : BufTy).Contents (Elt F)) (e0 : (⟨S2x256x1, .f32⟩ : BufTy).Contents (Elt F)) : (⟨S2x256x3968, .f32⟩ : BufTy).Contents (Elt F) :=
  mulf (val_main_v34 (F := F) r0) (val_main_v35 (F := F) e0)
theorem val_main_v36_apply (r0 : (⟨S512x3968, .f32⟩ : BufTy).Contents (Elt F)) (e0 : (⟨S2x256x1, .f32⟩ : BufTy).Contents (Elt F)) (i : S2x256x3968.Idx) :
    val_main_v36 (F := F) r0 e0 i = FloatOps.mulf (val_main_v34 (F := F) r0 i) (val_main_v35 (F := F) e0 i) := rfl

-- %37 = stablehlo.reshape %arg2 : (tensor<3968x1xf32>) -> tensor<3968xf32>
def val_main_v37 (x2 : (⟨S3968x1, .f32⟩ : BufTy).Contents (Elt F)) : (⟨S3968, .f32⟩ : BufTy).Contents (Elt F) :=
  shapeCast _ (x2) shapeCasts_S3968x1_S3968
set_option backward.proofsInPublic true in
abbrev idx_main_v37 (i : S3968.Idx) : S3968x1.Idx := fun a => match a with
  | ⟨0, _⟩ => ⟨((i 0).val) / 1, by have h0 : (i 0).val < 3968 := (i 0).isLt; show ((i 0).val) / 1 < 3968; omega⟩
  | ⟨1, _⟩ => ⟨0, Nat.one_pos⟩
theorem val_main_v37_apply (x2 : (⟨S3968x1, .f32⟩ : BufTy).Contents (Elt F)) (i : S3968.Idx) :
    val_main_v37 (F := F) x2 i = x2 (idx_main_v37 i) := by
  unfold val_main_v37
  exact shapeCast_apply x2 shapeCasts_S3968x1_S3968 i (idx_main_v37 i)
    (by rewrite [Shape.rowMajor_val_two, Shape.rowMajor_val_one]; have h0 : (i 0).val < 3968 := (i 0).isLt; show ((i 0).val) / 1 * 1 + 0 = (i 0).val; omega)

-- %38 = stablehlo.broadcast_in_dim %37, dims = [2] : (tensor<3968xf32>) -> tensor<1x1x3968xf32>
def val_main_v38 (x2 : (⟨S3968x1, .f32⟩ : BufTy).Contents (Elt F)) : (⟨S1x1x3968, .f32⟩ : BufTy).Contents (Elt F) :=
  broadcastInDim S1x1x3968 ![2] bcast_S3968_S1x1x3968_2 (val_main_v37 (F := F) x2)
abbrev idx_main_v38 (i : S1x1x3968.Idx) : S3968.Idx := fun a => match a with
  | ⟨0, _⟩ => ⟨(i 2).val, (i 2).isLt⟩
theorem val_main_v38_apply (x2 : (⟨S3968x1, .f32⟩ : BufTy).Contents (Elt F)) (i : S1x1x3968.Idx) :
    val_main_v38 (F := F) x2 i = val_main_v37 (F := F) x2 (idx_main_v38 i) := by
  unfold val_main_v38
  generalize val_main_v37 (F := F) x2 = y
  exact broadcastInDim_apply _ bcast_S3968_S1x1x3968_2 y i (idx_main_v38 i) (fun a => match a with
    | ⟨0, _⟩ => by show (i 2).val = if (3968 : Nat) = 1 then 0 else (i 2).val; rw [if_neg (by decide)])

-- %39 = stablehlo.broadcast_in_dim %38, dims = [0, 1, 2] : (tensor<1x1x3968xf32>) -> tensor<2x256x3968xf32>
def val_main_v39 (x2 : (⟨S3968x1, .f32⟩ : BufTy).Contents (Elt F)) : (⟨S2x256x3968, .f32⟩ : BufTy).Contents (Elt F) :=
  broadcastInDim S2x256x3968 ![0, 1, 2] bcast_S1x1x3968_S2x256x3968_0_1_2 (val_main_v38 (F := F) x2)
abbrev idx_main_v39 (i : S2x256x3968.Idx) : S1x1x3968.Idx := fun a => match a with
  | ⟨0, _⟩ => ⟨0, Nat.one_pos⟩
  | ⟨1, _⟩ => ⟨0, Nat.one_pos⟩
  | ⟨2, _⟩ => ⟨(i 2).val, (i 2).isLt⟩
theorem val_main_v39_apply (x2 : (⟨S3968x1, .f32⟩ : BufTy).Contents (Elt F)) (i : S2x256x3968.Idx) :
    val_main_v39 (F := F) x2 i = val_main_v38 (F := F) x2 (idx_main_v39 i) := by
  unfold val_main_v39
  generalize val_main_v38 (F := F) x2 = y
  exact broadcastInDim_apply _ bcast_S1x1x3968_S2x256x3968_0_1_2 y i (idx_main_v39 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (3968 : Nat) = 1 then 0 else (i 2).val; rw [if_neg (by decide)])

-- %40 = stablehlo.multiply %36, %39 : tensor<2x256x3968xf32>
def val_main_v40 (x2 : (⟨S3968x1, .f32⟩ : BufTy).Contents (Elt F)) (r0 : (⟨S512x3968, .f32⟩ : BufTy).Contents (Elt F)) (e0 : (⟨S2x256x1, .f32⟩ : BufTy).Contents (Elt F)) : (⟨S2x256x3968, .f32⟩ : BufTy).Contents (Elt F) :=
  mulf (val_main_v36 (F := F) r0 e0) (val_main_v39 (F := F) x2)
theorem val_main_v40_apply (x2 : (⟨S3968x1, .f32⟩ : BufTy).Contents (Elt F)) (r0 : (⟨S512x3968, .f32⟩ : BufTy).Contents (Elt F)) (e0 : (⟨S2x256x1, .f32⟩ : BufTy).Contents (Elt F)) (i : S2x256x3968.Idx) :
    val_main_v40 (F := F) x2 r0 e0 i = FloatOps.mulf (val_main_v36 (F := F) r0 e0 i) (val_main_v39 (F := F) x2 i) := rfl

-- %cst_12 = stablehlo.constant dense<0xFF800000> : tensor<f32>
def val_main_cst_12 : (⟨S_, .f32⟩ : BufTy).Contents (Elt F) :=
  constant S_ .f32 0xFF800000#32
theorem val_main_cst_12_apply (i : S_.Idx) :
    val_main_cst_12 (F := F) i = FloatOps.ofBits .f32 0xFF800000#32 := rfl

-- %41 = stablehlo.reduce(%40 init: %cst_12) applies stablehlo.maximum across dimensions = [2] : (tensor<2x256x3968xf32>, tensor<f32>) -> tensor<2x256xf32> {
def val_main_v41 (x2 : (⟨S3968x1, .f32⟩ : BufTy).Contents (Elt F)) (r0 : (⟨S512x3968, .f32⟩ : BufTy).Contents (Elt F)) (e0 : (⟨S2x256x1, .f32⟩ : BufTy).Contents (Elt F)) : (⟨S2x256, .f32⟩ : BufTy).Contents (Elt F) :=
  Host.reduce FloatOps.maximumf (val_main_v40 (F := F) x2 r0 e0) (val_main_cst_12 (F := F)) reducesTo_S2x256x3968_S2x256_d2 h_S_

-- %42 = stablehlo.broadcast_in_dim %41, dims = [0, 1] : (tensor<2x256xf32>) -> tensor<2x256x1xf32>
def val_main_v42 (x2 : (⟨S3968x1, .f32⟩ : BufTy).Contents (Elt F)) (r0 : (⟨S512x3968, .f32⟩ : BufTy).Contents (Elt F)) (e0 : (⟨S2x256x1, .f32⟩ : BufTy).Contents (Elt F)) : (⟨S2x256x1, .f32⟩ : BufTy).Contents (Elt F) :=
  broadcastInDim S2x256x1 ![0, 1] bcast_S2x256_S2x256x1_0_1 (val_main_v41 (F := F) x2 r0 e0)
abbrev idx_main_v42 (i : S2x256x1.Idx) : S2x256.Idx := fun a => match a with
  | ⟨0, _⟩ => ⟨(i 0).val, (i 0).isLt⟩
  | ⟨1, _⟩ => ⟨(i 1).val, (i 1).isLt⟩
theorem val_main_v42_apply (x2 : (⟨S3968x1, .f32⟩ : BufTy).Contents (Elt F)) (r0 : (⟨S512x3968, .f32⟩ : BufTy).Contents (Elt F)) (e0 : (⟨S2x256x1, .f32⟩ : BufTy).Contents (Elt F)) (i : S2x256x1.Idx) :
    val_main_v42 (F := F) x2 r0 e0 i = val_main_v41 (F := F) x2 r0 e0 (idx_main_v42 i) := by
  unfold val_main_v42
  generalize val_main_v41 (F := F) x2 r0 e0 = y
  exact broadcastInDim_apply _ bcast_S2x256_S2x256x1_0_1 y i (idx_main_v42 i) (fun a => match a with
    | ⟨0, _⟩ => by show (i 0).val = if (2 : Nat) = 1 then 0 else (i 0).val; rw [if_neg (by decide)]
    | ⟨1, _⟩ => by show (i 1).val = if (256 : Nat) = 1 then 0 else (i 1).val; rw [if_neg (by decide)])

-- %43 = stablehlo.broadcast_in_dim %42, dims = [0, 1, 2] : (tensor<2x256x1xf32>) -> tensor<2x256x3968xf32>
def val_main_v43 (x2 : (⟨S3968x1, .f32⟩ : BufTy).Contents (Elt F)) (r0 : (⟨S512x3968, .f32⟩ : BufTy).Contents (Elt F)) (e0 : (⟨S2x256x1, .f32⟩ : BufTy).Contents (Elt F)) : (⟨S2x256x3968, .f32⟩ : BufTy).Contents (Elt F) :=
  broadcastInDim S2x256x3968 ![0, 1, 2] bcast_S2x256x1_S2x256x3968_0_1_2 (val_main_v42 (F := F) x2 r0 e0)
abbrev idx_main_v43 (i : S2x256x3968.Idx) : S2x256x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v43_apply (x2 : (⟨S3968x1, .f32⟩ : BufTy).Contents (Elt F)) (r0 : (⟨S512x3968, .f32⟩ : BufTy).Contents (Elt F)) (e0 : (⟨S2x256x1, .f32⟩ : BufTy).Contents (Elt F)) (i : S2x256x3968.Idx) :
    val_main_v43 (F := F) x2 r0 e0 i = val_main_v42 (F := F) x2 r0 e0 (idx_main_v43 i) := by
  unfold val_main_v43
  generalize val_main_v42 (F := F) x2 r0 e0 = y
  exact broadcastInDim_apply _ bcast_S2x256x1_S2x256x3968_0_1_2 y i (idx_main_v43 i) (fun a => match a with
    | ⟨0, _⟩ => by show (i 0).val = if (2 : Nat) = 1 then 0 else (i 0).val; rw [if_neg (by decide)]
    | ⟨1, _⟩ => by show (i 1).val = if (256 : Nat) = 1 then 0 else (i 1).val; rw [if_neg (by decide)]
    | ⟨2, _⟩ => by show 0 = if (1 : Nat) = 1 then 0 else (i 2).val; rw [if_pos rfl])

-- %44 = stablehlo.subtract %40, %43 : tensor<2x256x3968xf32>
def val_main_v44 (x2 : (⟨S3968x1, .f32⟩ : BufTy).Contents (Elt F)) (r0 : (⟨S512x3968, .f32⟩ : BufTy).Contents (Elt F)) (e0 : (⟨S2x256x1, .f32⟩ : BufTy).Contents (Elt F)) : (⟨S2x256x3968, .f32⟩ : BufTy).Contents (Elt F) :=
  subf (val_main_v40 (F := F) x2 r0 e0) (val_main_v43 (F := F) x2 r0 e0)
theorem val_main_v44_apply (x2 : (⟨S3968x1, .f32⟩ : BufTy).Contents (Elt F)) (r0 : (⟨S512x3968, .f32⟩ : BufTy).Contents (Elt F)) (e0 : (⟨S2x256x1, .f32⟩ : BufTy).Contents (Elt F)) (i : S2x256x3968.Idx) :
    val_main_v44 (F := F) x2 r0 e0 i = FloatOps.subf (val_main_v40 (F := F) x2 r0 e0 i) (val_main_v43 (F := F) x2 r0 e0 i) := rfl

-- %45 = stablehlo.exponential %44 : tensor<2x256x3968xf32>
def val_main_v45 (x2 : (⟨S3968x1, .f32⟩ : BufTy).Contents (Elt F)) (r0 : (⟨S512x3968, .f32⟩ : BufTy).Contents (Elt F)) (e0 : (⟨S2x256x1, .f32⟩ : BufTy).Contents (Elt F)) : (⟨S2x256x3968, .f32⟩ : BufTy).Contents (Elt F) :=
  Host.exp (val_main_v44 (F := F) x2 r0 e0)
theorem val_main_v45_apply (x2 : (⟨S3968x1, .f32⟩ : BufTy).Contents (Elt F)) (r0 : (⟨S512x3968, .f32⟩ : BufTy).Contents (Elt F)) (e0 : (⟨S2x256x1, .f32⟩ : BufTy).Contents (Elt F)) (i : S2x256x3968.Idx) :
    val_main_v45 (F := F) x2 r0 e0 i = FloatOps.hostUnary .exp (val_main_v44 (F := F) x2 r0 e0 i) := rfl

-- %cst_13 = stablehlo.constant dense<0.000000e+00> : tensor<f32>
def val_main_cst_13 : (⟨S_, .f32⟩ : BufTy).Contents (Elt F) :=
  constant S_ .f32 0x00000000#32
theorem val_main_cst_13_apply (i : S_.Idx) :
    val_main_cst_13 (F := F) i = FloatOps.ofBits .f32 0x00000000#32 := rfl

-- %46 = stablehlo.reduce(%45 init: %cst_13) applies stablehlo.add across dimensions = [2] : (tensor<2x256x3968xf32>, tensor<f32>) -> tensor<2x256xf32> {
def val_main_v46 (x2 : (⟨S3968x1, .f32⟩ : BufTy).Contents (Elt F)) (r0 : (⟨S512x3968, .f32⟩ : BufTy).Contents (Elt F)) (e0 : (⟨S2x256x1, .f32⟩ : BufTy).Contents (Elt F)) : (⟨S2x256, .f32⟩ : BufTy).Contents (Elt F) :=
  Host.reduceAdd (val_main_v45 (F := F) x2 r0 e0) (val_main_cst_13 (F := F)) reducesTo_S2x256x3968_S2x256_d2 h_S_
abbrev idx_main_v46 (i : S2x256.Idx) (k : Fin 3968) : S2x256x3968.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v46_apply (x2 : (⟨S3968x1, .f32⟩ : BufTy).Contents (Elt Ideal)) (r0 : (⟨S512x3968, .f32⟩ : BufTy).Contents (Elt Ideal)) (e0 : (⟨S2x256x1, .f32⟩ : BufTy).Contents (Elt Ideal)) (i : S2x256.Idx) :
    val_main_v46 (F := Ideal) x2 r0 e0 i = (val_main_cst_13 (F := Ideal)) (Shape.Idx.first h_S_) + ∑ k : Fin 3968, (val_main_v45 (F := Ideal) x2 r0 e0) (idx_main_v46 i k) := by
  unfold val_main_v46
  generalize val_main_v45 (F := Ideal) x2 r0 e0 = y0
  simp only [Host.reduceAdd, Ideal.hostReduceAdd_def]
  rw [Ideal.hostReduceAdd_single reducesTo_S2x256x3968_S2x256_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %47 = stablehlo.log %46 : tensor<2x256xf32>
def val_main_v47 (x2 : (⟨S3968x1, .f32⟩ : BufTy).Contents (Elt F)) (r0 : (⟨S512x3968, .f32⟩ : BufTy).Contents (Elt F)) (e0 : (⟨S2x256x1, .f32⟩ : BufTy).Contents (Elt F)) : (⟨S2x256, .f32⟩ : BufTy).Contents (Elt F) :=
  Host.log (val_main_v46 (F := F) x2 r0 e0)
theorem val_main_v47_apply (x2 : (⟨S3968x1, .f32⟩ : BufTy).Contents (Elt F)) (r0 : (⟨S512x3968, .f32⟩ : BufTy).Contents (Elt F)) (e0 : (⟨S2x256x1, .f32⟩ : BufTy).Contents (Elt F)) (i : S2x256.Idx) :
    val_main_v47 (F := F) x2 r0 e0 i = FloatOps.hostUnary .log (val_main_v46 (F := F) x2 r0 e0 i) := rfl

-- %48 = stablehlo.reshape %42 : (tensor<2x256x1xf32>) -> tensor<2x256xf32>
def val_main_v48 (x2 : (⟨S3968x1, .f32⟩ : BufTy).Contents (Elt F)) (r0 : (⟨S512x3968, .f32⟩ : BufTy).Contents (Elt F)) (e0 : (⟨S2x256x1, .f32⟩ : BufTy).Contents (Elt F)) : (⟨S2x256, .f32⟩ : BufTy).Contents (Elt F) :=
  shapeCast _ (val_main_v42 (F := F) x2 r0 e0) shapeCasts_S2x256x1_S2x256
set_option backward.proofsInPublic true in
abbrev idx_main_v48 (i : S2x256.Idx) : S2x256x1.Idx := fun a => match a with
  | ⟨0, _⟩ => ⟨((i 0).val * 256 + (i 1).val) / 256, by have h0 : (i 0).val < 2 := (i 0).isLt; have h1 : (i 1).val < 256 := (i 1).isLt; show ((i 0).val * 256 + (i 1).val) / 256 < 2; omega⟩
  | ⟨1, _⟩ => ⟨((i 0).val * 256 + (i 1).val) / 1 % 256, by have h0 : (i 0).val < 2 := (i 0).isLt; have h1 : (i 1).val < 256 := (i 1).isLt; show ((i 0).val * 256 + (i 1).val) / 1 % 256 < 256; omega⟩
  | ⟨2, _⟩ => ⟨0, Nat.one_pos⟩
theorem val_main_v48_apply (x2 : (⟨S3968x1, .f32⟩ : BufTy).Contents (Elt F)) (r0 : (⟨S512x3968, .f32⟩ : BufTy).Contents (Elt F)) (e0 : (⟨S2x256x1, .f32⟩ : BufTy).Contents (Elt F)) (i : S2x256.Idx) :
    val_main_v48 (F := F) x2 r0 e0 i = val_main_v42 (F := F) x2 r0 e0 (idx_main_v48 i) := by
  unfold val_main_v48
  generalize val_main_v42 (F := F) x2 r0 e0 = y
  exact shapeCast_apply y shapeCasts_S2x256x1_S2x256 i (idx_main_v48 i)
    (by rewrite [Shape.rowMajor_val_three, Shape.rowMajor_val_two]; have h0 : (i 0).val < 2 := (i 0).isLt; have h1 : (i 1).val < 256 := (i 1).isLt; show (((i 0).val * 256 + (i 1).val) / 256 * 256 + ((i 0).val * 256 + (i 1).val) / 1 % 256) * 1 + 0 = (i 0).val * 256 + (i 1).val; omega)

-- %49 = stablehlo.add %47, %48 : tensor<2x256xf32>
def val_main_v49 (x2 : (⟨S3968x1, .f32⟩ : BufTy).Contents (Elt F)) (r0 : (⟨S512x3968, .f32⟩ : BufTy).Contents (Elt F)) (e0 : (⟨S2x256x1, .f32⟩ : BufTy).Contents (Elt F)) : (⟨S2x256, .f32⟩ : BufTy).Contents (Elt F) :=
  addf (val_main_v47 (F := F) x2 r0 e0) (val_main_v48 (F := F) x2 r0 e0)
theorem val_main_v49_apply (x2 : (⟨S3968x1, .f32⟩ : BufTy).Contents (Elt F)) (r0 : (⟨S512x3968, .f32⟩ : BufTy).Contents (Elt F)) (e0 : (⟨S2x256x1, .f32⟩ : BufTy).Contents (Elt F)) (i : S2x256.Idx) :
    val_main_v49 (F := F) x2 r0 e0 i = FloatOps.addf (val_main_v47 (F := F) x2 r0 e0 i) (val_main_v48 (F := F) x2 r0 e0 i) := rfl

-- %50 = stablehlo.broadcast_in_dim %arg3, dims = [0, 1] : (tensor<2x256xi32>) -> tensor<2x256x1xi32>
def val_main_v50 (x3 : (⟨S2x256, .i32⟩ : BufTy).Contents (Elt F)) : (⟨S2x256x1, .i32⟩ : BufTy).Contents (Elt F) :=
  broadcastInDim S2x256x1 ![0, 1] bcast_S2x256_S2x256x1_0_1 (x3)
abbrev idx_main_v50 (i : S2x256x1.Idx) : S2x256.Idx := fun a => match a with
  | ⟨0, _⟩ => ⟨(i 0).val, (i 0).isLt⟩
  | ⟨1, _⟩ => ⟨(i 1).val, (i 1).isLt⟩
theorem val_main_v50_apply (x3 : (⟨S2x256, .i32⟩ : BufTy).Contents (Elt F)) (i : S2x256x1.Idx) :
    val_main_v50 (F := F) x3 i = x3 (idx_main_v50 i) := by
  unfold val_main_v50
  exact broadcastInDim_apply _ bcast_S2x256_S2x256x1_0_1 x3 i (idx_main_v50 i) (fun a => match a with
    | ⟨0, _⟩ => by show (i 0).val = if (2 : Nat) = 1 then 0 else (i 0).val; rw [if_neg (by decide)]
    | ⟨1, _⟩ => by show (i 1).val = if (256 : Nat) = 1 then 0 else (i 1).val; rw [if_neg (by decide)])

-- @take_along_axis's %c = stablehlo.constant dense<0> : tensor<i32>, in %51 = func.call @take_along_axis(…) (record main_call3)
def val_main_call3_c : (⟨S_, .i32⟩ : BufTy).Contents (Elt F) :=
  constantI S_ 32 0#32
theorem val_main_call3_c_apply (i : S_.Idx) :
    val_main_call3_c (F := F) i = 0#32 := rfl

-- @take_along_axis's %0 = stablehlo.broadcast_in_dim %c, dims = [] : (tensor<i32>) -> tensor<2x256x1xi32>, in %51 = func.call @take_along_axis(…) (record main_call3)
def val_main_call3_v0 : (⟨S2x256x1, .i32⟩ : BufTy).Contents (Elt F) :=
  broadcastInDim S2x256x1 ![] bcast_S_S2x256x1 (val_main_call3_c (F := F))
abbrev idx_main_call3_v0 (i : S2x256x1.Idx) : S_.Idx := fun a => a.elim0
theorem val_main_call3_v0_apply (i : S2x256x1.Idx) :
    val_main_call3_v0 (F := F) i = val_main_call3_c (F := F) (idx_main_call3_v0 i) := by
  unfold val_main_call3_v0
  generalize val_main_call3_c (F := F) = y
  exact broadcastInDim_apply _ bcast_S_S2x256x1 y i (idx_main_call3_v0 i) (fun a => a.elim0)

-- @take_along_axis's %1 = stablehlo.compare LT, %arg1, %0, SIGNED : (tensor<2x256x1xi32>, tensor<2x256x1xi32>) -> tensor<2x256x1xi1>, in %51 = func.call @take_along_axis(…) (record main_call3)
def val_main_call3_v1 (x3 : (⟨S2x256, .i32⟩ : BufTy).Contents (Elt F)) : (⟨S2x256x1, .i1⟩ : BufTy).Contents (Elt F) :=
  cmpi .slt (val_main_v50 (F := F) x3) (val_main_call3_v0 (F := F))
theorem val_main_call3_v1_apply (x3 : (⟨S2x256, .i32⟩ : BufTy).Contents (Elt F)) (i : S2x256x1.Idx) :
    val_main_call3_v1 (F := F) x3 i = IntOp.cmpi .slt (val_main_v50 (F := F) x3 i) (val_main_call3_v0 (F := F) i) := rfl

-- @take_along_axis's %c_0 = stablehlo.constant dense<3968> : tensor<i32>, in %51 = func.call @take_along_axis(…) (record main_call3)
def val_main_call3_c_0 : (⟨S_, .i32⟩ : BufTy).Contents (Elt F) :=
  constantI S_ 32 3968#32
theorem val_main_call3_c_0_apply (i : S_.Idx) :
    val_main_call3_c_0 (F := F) i = 3968#32 := rfl

-- @take_along_axis's %2 = stablehlo.broadcast_in_dim %c_0, dims = [] : (tensor<i32>) -> tensor<2x256x1xi32>, in %51 = func.call @take_along_axis(…) (record main_call3)
def val_main_call3_v2 : (⟨S2x256x1, .i32⟩ : BufTy).Contents (Elt F) :=
  broadcastInDim S2x256x1 ![] bcast_S_S2x256x1 (val_main_call3_c_0 (F := F))
abbrev idx_main_call3_v2 (i : S2x256x1.Idx) : S_.Idx := fun a => a.elim0
theorem val_main_call3_v2_apply (i : S2x256x1.Idx) :
    val_main_call3_v2 (F := F) i = val_main_call3_c_0 (F := F) (idx_main_call3_v2 i) := by
  unfold val_main_call3_v2
  generalize val_main_call3_c_0 (F := F) = y
  exact broadcastInDim_apply _ bcast_S_S2x256x1 y i (idx_main_call3_v2 i) (fun a => a.elim0)

-- @take_along_axis's %3 = stablehlo.add %arg1, %2 : tensor<2x256x1xi32>, in %51 = func.call @take_along_axis(…) (record main_call3)
def val_main_call3_v3 (x3 : (⟨S2x256, .i32⟩ : BufTy).Contents (Elt F)) : (⟨S2x256x1, .i32⟩ : BufTy).Contents (Elt F) :=
  addi (val_main_v50 (F := F) x3) (val_main_call3_v2 (F := F))
theorem val_main_call3_v3_apply (x3 : (⟨S2x256, .i32⟩ : BufTy).Contents (Elt F)) (i : S2x256x1.Idx) :
    val_main_call3_v3 (F := F) x3 i = IntOp.addi (val_main_v50 (F := F) x3 i) (val_main_call3_v2 (F := F) i) := rfl

-- @take_along_axis's %4 = stablehlo.select %1, %3, %arg1 : tensor<2x256x1xi1>, tensor<2x256x1xi32>, in %51 = func.call @take_along_axis(…) (record main_call3)
def val_main_call3_v4 (x3 : (⟨S2x256, .i32⟩ : BufTy).Contents (Elt F)) : (⟨S2x256x1, .i32⟩ : BufTy).Contents (Elt F) :=
  select (val_main_call3_v1 (F := F) x3) (val_main_call3_v3 (F := F) x3) (val_main_v50 (F := F) x3)
theorem val_main_call3_v4_apply (x3 : (⟨S2x256, .i32⟩ : BufTy).Contents (Elt F)) (i : S2x256x1.Idx) :
    val_main_call3_v4 (F := F) x3 i = Scalar.select (val_main_call3_v1 (F := F) x3 i) (val_main_call3_v3 (F := F) x3 i) (val_main_v50 (F := F) x3 i) := rfl

-- @take_along_axis's %5 = stablehlo.reshape %4 : (tensor<2x256x1xi32>) -> tensor<2x256x1x1xi32>, in %51 = func.call @take_along_axis(…) (record main_call3)
def val_main_call3_v5 (x3 : (⟨S2x256, .i32⟩ : BufTy).Contents (Elt F)) : (⟨S2x256x1x1, .i32⟩ : BufTy).Contents (Elt F) :=
  shapeCast S2x256x1x1 (val_main_call3_v4 (F := F) x3) shapeCasts_S2x256x1_S2x256x1x1
set_option backward.proofsInPublic true in
abbrev idx_main_call3_v5 (i : S2x256x1x1.Idx) : S2x256x1.Idx := fun a => match a with
  | ⟨0, _⟩ => ⟨((((i 0).val * 256 + (i 1).val) * 1 + (i 2).val) * 1 + (i 3).val) / 256, by have h0 : (i 0).val < 2 := (i 0).isLt; have h1 : (i 1).val < 256 := (i 1).isLt; have h2 : (i 2).val < 1 := (i 2).isLt; have h3 : (i 3).val < 1 := (i 3).isLt; show ((((i 0).val * 256 + (i 1).val) * 1 + (i 2).val) * 1 + (i 3).val) / 256 < 2; omega⟩
  | ⟨1, _⟩ => ⟨((((i 0).val * 256 + (i 1).val) * 1 + (i 2).val) * 1 + (i 3).val) / 1 % 256, by have h0 : (i 0).val < 2 := (i 0).isLt; have h1 : (i 1).val < 256 := (i 1).isLt; have h2 : (i 2).val < 1 := (i 2).isLt; have h3 : (i 3).val < 1 := (i 3).isLt; show ((((i 0).val * 256 + (i 1).val) * 1 + (i 2).val) * 1 + (i 3).val) / 1 % 256 < 256; omega⟩
  | ⟨2, _⟩ => ⟨0, Nat.one_pos⟩
theorem val_main_call3_v5_apply (x3 : (⟨S2x256, .i32⟩ : BufTy).Contents (Elt F)) (i : S2x256x1x1.Idx) :
    val_main_call3_v5 (F := F) x3 i = val_main_call3_v4 (F := F) x3 (idx_main_call3_v5 i) := by
  unfold val_main_call3_v5
  generalize val_main_call3_v4 (F := F) x3 = y
  exact shapeCast_apply y shapeCasts_S2x256x1_S2x256x1x1 i (idx_main_call3_v5 i)
    (by rewrite [Shape.rowMajor_val_three, Shape.rowMajor_val_four]; have h0 : (i 0).val < 2 := (i 0).isLt; have h1 : (i 1).val < 256 := (i 1).isLt; have h2 : (i 2).val < 1 := (i 2).isLt; have h3 : (i 3).val < 1 := (i 3).isLt; show (((((i 0).val * 256 + (i 1).val) * 1 + (i 2).val) * 1 + (i 3).val) / 256 * 256 + ((((i 0).val * 256 + (i 1).val) * 1 + (i 2).val) * 1 + (i 3).val) / 1 % 256) * 1 + 0 = (((i 0).val * 256 + (i 1).val) * 1 + (i 2).val) * 1 + (i 3).val; omega)

-- @take_along_axis's %c_1 = stablehlo.constant dense<3967> : tensor<1xi32>, in %51 = func.call @take_along_axis(…) (record main_call3)
def val_main_call3_c_1 : (⟨S1, .i32⟩ : BufTy).Contents (Elt F) :=
  constantI S1 32 3967#32
theorem val_main_call3_c_1_apply (i : S1.Idx) :
    val_main_call3_c_1 (F := F) i = 3967#32 := rfl

-- @take_along_axis's %c_2 = stablehlo.constant dense<0> : tensor<i32>, in %51 = func.call @take_along_axis(…) (record main_call3)
def val_main_call3_c_2 : (⟨S_, .i32⟩ : BufTy).Contents (Elt F) :=
  constantI S_ 32 0#32
theorem val_main_call3_c_2_apply (i : S_.Idx) :
    val_main_call3_c_2 (F := F) i = 0#32 := rfl

-- @take_along_axis's %6 = stablehlo.broadcast_in_dim %c_2, dims = [] : (tensor<i32>) -> tensor<2x256x1x1xi32>, in %51 = func.call @take_along_axis(…) (record main_call3)
def val_main_call3_v6 : (⟨S2x256x1x1, .i32⟩ : BufTy).Contents (Elt F) :=
  broadcastInDim S2x256x1x1 ![] bcast_S_S2x256x1x1 (val_main_call3_c_2 (F := F))
abbrev idx_main_call3_v6 (i : S2x256x1x1.Idx) : S_.Idx := fun a => a.elim0
theorem val_main_call3_v6_apply (i : S2x256x1x1.Idx) :
    val_main_call3_v6 (F := F) i = val_main_call3_c_2 (F := F) (idx_main_call3_v6 i) := by
  unfold val_main_call3_v6
  generalize val_main_call3_c_2 (F := F) = y
  exact broadcastInDim_apply _ bcast_S_S2x256x1x1 y i (idx_main_call3_v6 i) (fun a => a.elim0)

-- @take_along_axis's %7 = stablehlo.compare GE, %5, %6, SIGNED : (tensor<2x256x1x1xi32>, tensor<2x256x1x1xi32>) -> tensor<2x256x1x1xi1>, in %51 = func.call @take_along_axis(…) (record main_call3)
def val_main_call3_v7 (x3 : (⟨S2x256, .i32⟩ : BufTy).Contents (Elt F)) : (⟨S2x256x1x1, .i1⟩ : BufTy).Contents (Elt F) :=
  cmpi .sge (val_main_call3_v5 (F := F) x3) (val_main_call3_v6 (F := F))
theorem val_main_call3_v7_apply (x3 : (⟨S2x256, .i32⟩ : BufTy).Contents (Elt F)) (i : S2x256x1x1.Idx) :
    val_main_call3_v7 (F := F) x3 i = IntOp.cmpi .sge (val_main_call3_v5 (F := F) x3 i) (val_main_call3_v6 (F := F) i) := rfl

-- @take_along_axis's %8 = stablehlo.broadcast_in_dim %c_1, dims = [3] : (tensor<1xi32>) -> tensor<1x1x1x1xi32>, in %51 = func.call @take_along_axis(…) (record main_call3)
def val_main_call3_v8 : (⟨S1x1x1x1, .i32⟩ : BufTy).Contents (Elt F) :=
  broadcastInDim S1x1x1x1 ![3] bcast_S1_S1x1x1x1_3 (val_main_call3_c_1 (F := F))
abbrev idx_main_call3_v8 (i : S1x1x1x1.Idx) : S1.Idx := fun a => match a with
  | ⟨0, _⟩ => ⟨0, Nat.one_pos⟩
theorem val_main_call3_v8_apply (i : S1x1x1x1.Idx) :
    val_main_call3_v8 (F := F) i = val_main_call3_c_1 (F := F) (idx_main_call3_v8 i) := by
  unfold val_main_call3_v8
  generalize val_main_call3_c_1 (F := F) = y
  exact broadcastInDim_apply _ bcast_S1_S1x1x1x1_3 y i (idx_main_call3_v8 i) (fun a => match a with
    | ⟨0, _⟩ => by show 0 = if (1 : Nat) = 1 then 0 else (i 3).val; rw [if_pos rfl])

-- @take_along_axis's %9 = stablehlo.broadcast_in_dim %8, dims = [0, 1, 2, 3] : (tensor<1x1x1x1xi32>) -> tensor<2x256x1x1xi32>, in %51 = func.call @take_along_axis(…) (record main_call3)
def val_main_call3_v9 : (⟨S2x256x1x1, .i32⟩ : BufTy).Contents (Elt F) :=
  broadcastInDim S2x256x1x1 ![0, 1, 2, 3] bcast_S1x1x1x1_S2x256x1x1_0_1_2_3 (val_main_call3_v8 (F := F))
abbrev idx_main_call3_v9 (i : S2x256x1x1.Idx) : S1x1x1x1.Idx := fun a => match a with
  | ⟨0, _⟩ => ⟨0, Nat.one_pos⟩
  | ⟨1, _⟩ => ⟨0, Nat.one_pos⟩
  | ⟨2, _⟩ => ⟨0, Nat.one_pos⟩
  | ⟨3, _⟩ => ⟨0, Nat.one_pos⟩
theorem val_main_call3_v9_apply (i : S2x256x1x1.Idx) :
    val_main_call3_v9 (F := F) i = val_main_call3_v8 (F := F) (idx_main_call3_v9 i) := by
  unfold val_main_call3_v9
  generalize val_main_call3_v8 (F := F) = y
  exact broadcastInDim_apply _ bcast_S1x1x1x1_S2x256x1x1_0_1_2_3 y i (idx_main_call3_v9 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl]
    | ⟨3, _⟩ => by show 0 = if (1 : Nat) = 1 then 0 else (i 3).val; rw [if_pos rfl])

-- @take_along_axis's %10 = stablehlo.compare LE, %5, %9, SIGNED : (tensor<2x256x1x1xi32>, tensor<2x256x1x1xi32>) -> tensor<2x256x1x1xi1>, in %51 = func.call @take_along_axis(…) (record main_call3)
def val_main_call3_v10 (x3 : (⟨S2x256, .i32⟩ : BufTy).Contents (Elt F)) : (⟨S2x256x1x1, .i1⟩ : BufTy).Contents (Elt F) :=
  cmpi .sle (val_main_call3_v5 (F := F) x3) (val_main_call3_v9 (F := F))
theorem val_main_call3_v10_apply (x3 : (⟨S2x256, .i32⟩ : BufTy).Contents (Elt F)) (i : S2x256x1x1.Idx) :
    val_main_call3_v10 (F := F) x3 i = IntOp.cmpi .sle (val_main_call3_v5 (F := F) x3 i) (val_main_call3_v9 (F := F) i) := rfl

-- @take_along_axis's %11 = stablehlo.and %7, %10 : tensor<2x256x1x1xi1>, in %51 = func.call @take_along_axis(…) (record main_call3)
def val_main_call3_v11 (x3 : (⟨S2x256, .i32⟩ : BufTy).Contents (Elt F)) : (⟨S2x256x1x1, .i1⟩ : BufTy).Contents (Elt F) :=
  andi (val_main_call3_v7 (F := F) x3) (val_main_call3_v10 (F := F) x3)
theorem val_main_call3_v11_apply (x3 : (⟨S2x256, .i32⟩ : BufTy).Contents (Elt F)) (i : S2x256x1x1.Idx) :
    val_main_call3_v11 (F := F) x3 i = IntOp.andi (val_main_call3_v7 (F := F) x3 i) (val_main_call3_v10 (F := F) x3 i) := rfl

-- @take_along_axis's %c_3 = stablehlo.constant dense<true> : tensor<i1>, in %51 = func.call @take_along_axis(…) (record main_call3)
def val_main_call3_c_3 : (⟨S_, .i1⟩ : BufTy).Contents (Elt F) :=
  constantI S_ 1 1#1
theorem val_main_call3_c_3_apply (i : S_.Idx) :
    val_main_call3_c_3 (F := F) i = 1#1 := rfl

-- @take_along_axis's %12 = stablehlo.reduce(%11 init: %c_3) applies stablehlo.and across dimensions = [3] : (tensor<2x256x1x1xi1>, tensor<i1>) -> tensor<2x256x1xi1> {, in %51 = func.call @take_along_axis(…) (record main_call3)
def val_main_call3_v12 (x3 : (⟨S2x256, .i32⟩ : BufTy).Contents (Elt F)) : (⟨S2x256x1, .i1⟩ : BufTy).Contents (Elt F) :=
  Host.reduce IntOp.andi (val_main_call3_v11 (F := F) x3) (val_main_call3_c_3 (F := F)) reducesTo_S2x256x1x1_S2x256x1_d3 h_S_

-- @take_along_axis's %13 = "stablehlo.gather"(%arg0, %5) <{dimension_numbers = #stablehlo.gather<collapsed_slice_dims = [2], operand_batching_dims = [0, 1], start_indices_batching_dims = [0, 1], start_index_map = [2], index_vector_dim = 3>, indices_are_sorted = false, slice_sizes = array<i64: 1, 1, 1>}> : (tensor<2x256x3968xf32>, tensor<2x256x1x1xi32>) -> tensor<2x256x1xf32>, in %51 = func.call @take_along_axis(…) (record main_call3)
def val_main_call3_v13 (x2 : (⟨S3968x1, .f32⟩ : BufTy).Contents (Elt F)) (x3 : (⟨S2x256, .i32⟩ : BufTy).Contents (Elt F)) (r0 : (⟨S512x3968, .f32⟩ : BufTy).Contents (Elt F)) (e0 : (⟨S2x256x1, .f32⟩ : BufTy).Contents (Elt F)) : (⟨S2x256x1, .f32⟩ : BufTy).Contents (Elt F) :=
  Host.gather gather_S2x256x3968_S2x256x1x1_S2x256x1_n_2_01_01_2_3_111 (val_main_v40 (F := F) x2 r0 e0) (val_main_call3_v5 (F := F) x3)

-- @take_along_axis's %cst = stablehlo.constant dense<0x7FC00000> : tensor<f32>, in %51 = func.call @take_along_axis(…) (record main_call3)
def val_main_call3_cst : (⟨S_, .f32⟩ : BufTy).Contents (Elt F) :=
  constant S_ .f32 0x7FC00000#32
theorem val_main_call3_cst_apply (i : S_.Idx) :
    val_main_call3_cst (F := F) i = FloatOps.ofBits .f32 0x7FC00000#32 := rfl

-- @take_along_axis's %14 = stablehlo.broadcast_in_dim %cst, dims = [] : (tensor<f32>) -> tensor<2x256x1xf32>, in %51 = func.call @take_along_axis(…) (record main_call3)
def val_main_call3_v14 : (⟨S2x256x1, .f32⟩ : BufTy).Contents (Elt F) :=
  broadcastInDim S2x256x1 ![] bcast_S_S2x256x1 (val_main_call3_cst (F := F))
abbrev idx_main_call3_v14 (i : S2x256x1.Idx) : S_.Idx := fun a => a.elim0
theorem val_main_call3_v14_apply (i : S2x256x1.Idx) :
    val_main_call3_v14 (F := F) i = val_main_call3_cst (F := F) (idx_main_call3_v14 i) := by
  unfold val_main_call3_v14
  generalize val_main_call3_cst (F := F) = y
  exact broadcastInDim_apply _ bcast_S_S2x256x1 y i (idx_main_call3_v14 i) (fun a => a.elim0)

-- %51 = func.call @take_along_axis(…) (record main_call3) result 0: @take_along_axis's %15 = stablehlo.select %12, %13, %14 : tensor<2x256x1xi1>, tensor<2x256x1xf32>
def val_main_v51 (x2 : (⟨S3968x1, .f32⟩ : BufTy).Contents (Elt F)) (x3 : (⟨S2x256, .i32⟩ : BufTy).Contents (Elt F)) (r0 : (⟨S512x3968, .f32⟩ : BufTy).Contents (Elt F)) (e0 : (⟨S2x256x1, .f32⟩ : BufTy).Contents (Elt F)) : (⟨S2x256x1, .f32⟩ : BufTy).Contents (Elt F) :=
  select (val_main_call3_v12 (F := F) x3) (val_main_call3_v13 (F := F) x2 x3 r0 e0) (val_main_call3_v14 (F := F))
theorem val_main_v51_apply (x2 : (⟨S3968x1, .f32⟩ : BufTy).Contents (Elt F)) (x3 : (⟨S2x256, .i32⟩ : BufTy).Contents (Elt F)) (r0 : (⟨S512x3968, .f32⟩ : BufTy).Contents (Elt F)) (e0 : (⟨S2x256x1, .f32⟩ : BufTy).Contents (Elt F)) (i : S2x256x1.Idx) :
    val_main_v51 (F := F) x2 x3 r0 e0 i = Scalar.select (val_main_call3_v12 (F := F) x3 i) (val_main_call3_v13 (F := F) x2 x3 r0 e0 i) (val_main_call3_v14 (F := F) i) := rfl

-- %52 = stablehlo.reshape %51 : (tensor<2x256x1xf32>) -> tensor<2x256xf32>
def val_main_v52 (x2 : (⟨S3968x1, .f32⟩ : BufTy).Contents (Elt F)) (x3 : (⟨S2x256, .i32⟩ : BufTy).Contents (Elt F)) (r0 : (⟨S512x3968, .f32⟩ : BufTy).Contents (Elt F)) (e0 : (⟨S2x256x1, .f32⟩ : BufTy).Contents (Elt F)) : (⟨S2x256, .f32⟩ : BufTy).Contents (Elt F) :=
  shapeCast _ (val_main_v51 (F := F) x2 x3 r0 e0) shapeCasts_S2x256x1_S2x256
set_option backward.proofsInPublic true in
abbrev idx_main_v52 (i : S2x256.Idx) : S2x256x1.Idx := fun a => match a with
  | ⟨0, _⟩ => ⟨((i 0).val * 256 + (i 1).val) / 256, by have h0 : (i 0).val < 2 := (i 0).isLt; have h1 : (i 1).val < 256 := (i 1).isLt; show ((i 0).val * 256 + (i 1).val) / 256 < 2; omega⟩
  | ⟨1, _⟩ => ⟨((i 0).val * 256 + (i 1).val) / 1 % 256, by have h0 : (i 0).val < 2 := (i 0).isLt; have h1 : (i 1).val < 256 := (i 1).isLt; show ((i 0).val * 256 + (i 1).val) / 1 % 256 < 256; omega⟩
  | ⟨2, _⟩ => ⟨0, Nat.one_pos⟩
theorem val_main_v52_apply (x2 : (⟨S3968x1, .f32⟩ : BufTy).Contents (Elt F)) (x3 : (⟨S2x256, .i32⟩ : BufTy).Contents (Elt F)) (r0 : (⟨S512x3968, .f32⟩ : BufTy).Contents (Elt F)) (e0 : (⟨S2x256x1, .f32⟩ : BufTy).Contents (Elt F)) (i : S2x256.Idx) :
    val_main_v52 (F := F) x2 x3 r0 e0 i = val_main_v51 (F := F) x2 x3 r0 e0 (idx_main_v52 i) := by
  unfold val_main_v52
  generalize val_main_v51 (F := F) x2 x3 r0 e0 = y
  exact shapeCast_apply y shapeCasts_S2x256x1_S2x256 i (idx_main_v52 i)
    (by rewrite [Shape.rowMajor_val_three, Shape.rowMajor_val_two]; have h0 : (i 0).val < 2 := (i 0).isLt; have h1 : (i 1).val < 256 := (i 1).isLt; show (((i 0).val * 256 + (i 1).val) / 256 * 256 + ((i 0).val * 256 + (i 1).val) / 1 % 256) * 1 + 0 = (i 0).val * 256 + (i 1).val; omega)

-- %53 = stablehlo.subtract %49, %52 : tensor<2x256xf32>
def val_main_v53 (x2 : (⟨S3968x1, .f32⟩ : BufTy).Contents (Elt F)) (x3 : (⟨S2x256, .i32⟩ : BufTy).Contents (Elt F)) (r0 : (⟨S512x3968, .f32⟩ : BufTy).Contents (Elt F)) (e0 : (⟨S2x256x1, .f32⟩ : BufTy).Contents (Elt F)) : (⟨S2x256, .f32⟩ : BufTy).Contents (Elt F) :=
  subf (val_main_v49 (F := F) x2 r0 e0) (val_main_v52 (F := F) x2 x3 r0 e0)
theorem val_main_v53_apply (x2 : (⟨S3968x1, .f32⟩ : BufTy).Contents (Elt F)) (x3 : (⟨S2x256, .i32⟩ : BufTy).Contents (Elt F)) (r0 : (⟨S512x3968, .f32⟩ : BufTy).Contents (Elt F)) (e0 : (⟨S2x256x1, .f32⟩ : BufTy).Contents (Elt F)) (i : S2x256.Idx) :
    val_main_v53 (F := F) x2 x3 r0 e0 i = FloatOps.subf (val_main_v49 (F := F) x2 r0 e0 i) (val_main_v52 (F := F) x2 x3 r0 e0 i) := rfl

-- %cst_14 = stablehlo.constant dense<8.28601741> : tensor<f32>
def val_main_cst_14 : (⟨S_, .f32⟩ : BufTy).Contents (Elt F) :=
  constant S_ .f32 0x41049387#32
theorem val_main_cst_14_apply (i : S_.Idx) :
    val_main_cst_14 (F := F) i = FloatOps.ofBits .f32 0x41049387#32 := rfl

-- %54 = stablehlo.broadcast_in_dim %cst_14, dims = [] : (tensor<f32>) -> tensor<2x256xf32>
def val_main_v54 : (⟨S2x256, .f32⟩ : BufTy).Contents (Elt F) :=
  broadcastInDim S2x256 ![] bcast_S_S2x256 (val_main_cst_14 (F := F))
abbrev idx_main_v54 (i : S2x256.Idx) : S_.Idx := fun a => a.elim0
theorem val_main_v54_apply (i : S2x256.Idx) :
    val_main_v54 (F := F) i = val_main_cst_14 (F := F) (idx_main_v54 i) := by
  unfold val_main_v54
  generalize val_main_cst_14 (F := F) = y
  exact broadcastInDim_apply _ bcast_S_S2x256 y i (idx_main_v54 i) (fun a => a.elim0)

-- %55 = stablehlo.subtract %53, %54 : tensor<2x256xf32>
def val_main_v55 (x2 : (⟨S3968x1, .f32⟩ : BufTy).Contents (Elt F)) (x3 : (⟨S2x256, .i32⟩ : BufTy).Contents (Elt F)) (r0 : (⟨S512x3968, .f32⟩ : BufTy).Contents (Elt F)) (e0 : (⟨S2x256x1, .f32⟩ : BufTy).Contents (Elt F)) : (⟨S2x256, .f32⟩ : BufTy).Contents (Elt F) :=
  subf (val_main_v53 (F := F) x2 x3 r0 e0) (val_main_v54 (F := F))
theorem val_main_v55_apply (x2 : (⟨S3968x1, .f32⟩ : BufTy).Contents (Elt F)) (x3 : (⟨S2x256, .i32⟩ : BufTy).Contents (Elt F)) (r0 : (⟨S512x3968, .f32⟩ : BufTy).Contents (Elt F)) (e0 : (⟨S2x256x1, .f32⟩ : BufTy).Contents (Elt F)) (i : S2x256.Idx) :
    val_main_v55 (F := F) x2 x3 r0 e0 i = FloatOps.subf (val_main_v53 (F := F) x2 x3 r0 e0 i) (val_main_v54 (F := F) i) := rfl

/-! ## Before the product -/

/-- The absolute maximum of a token times 1/448. -/
def refT (x0 : (⟨S2x256x5120, .bf16⟩ : BufTy).Contents (Elt F)) : (⟨S2x256x1, .f32⟩ : BufTy).Contents (Elt F) :=
  mulf (broadcastInDim S2x256x1 ![0, 1] bcast_S2x256_S2x256x1_0_1 (Host.reduce FloatOps.maximumf (Host.absf (extf .f32 x0 bitsLt_bf16_f32)) (constant S_ .f32 0xFF800000#32) reducesTo_S2x256x5120_S2x256_d2 h_S_)) (broadcastInDim S2x256x1 ![] bcast_S_S2x256x1 (constant S_ .f32 0x3B124925#32))
/-- The exponents -126 … 127. -/
def refExps : (⟨S254, .f32⟩ : BufTy).Contents (Elt F) :=
  addf (broadcastInDim S254 ![] bcast_S_S254 (constant S_ .f32 0xC2FC0000#32)) (sitofp .f32 (iotaInDim S254 32 0))
/-- The powers of two at them. -/
def refPows : (⟨S254, .f32⟩ : BufTy).Contents (Elt F) :=
  Host.powf (broadcastInDim S254 ![] bcast_S_S254 (constant S_ .f32 0x40000000#32)) (refExps)
/-- The largest exponent whose power of two is at most the quotient (minus infinity for the others). -/
def refTop (x0 : (⟨S2x256x5120, .bf16⟩ : BufTy).Contents (Elt F)) : (⟨S2x256, .f32⟩ : BufTy).Contents (Elt F) :=
  Host.reduce FloatOps.maximumf (select (cmpf .ole (broadcastInDim S2x256x254 ![0, 1, 2] bcast_S1x1x254_S2x256x254_0_1_2 (broadcastInDim S1x1x254 ![2] bcast_S254_S1x1x254_2 (refPows))) (broadcastInDim S2x256x254 ![0, 1, 2] bcast_S2x256x1_S2x256x254_0_1_2 (refT x0))) (broadcastInDim S2x256x254 ![2] bcast_S254_S2x256x254_2 (refExps)) (broadcastInDim S2x256x254 ![] bcast_S_S2x256x254 (id (constant S_ .f32 0xFF800000#32)))) (constant S_ .f32 0xFF800000#32) reducesTo_S2x256x254_S2x256_d2 h_S_
/-- The exponent of a token's scale. -/
def refExp (x0 : (⟨S2x256x5120, .bf16⟩ : BufTy).Contents (Elt F)) : (⟨S2x256x1, .f32⟩ : BufTy).Contents (Elt F) :=
  select (cmpf .olt (refT x0) (broadcastInDim S2x256x1 ![] bcast_S_S2x256x1 (constant S_ .f32 0x00800000#32))) (broadcastInDim S2x256x1 ![] bcast_S_S2x256x1 (id (constant S_ .f32 0x00000000#32))) (addf (broadcastInDim S2x256x1 ![0, 1] bcast_S2x256_S2x256x1_0_1 (refTop x0)) (broadcastInDim S2x256x1 ![] bcast_S_S2x256x1 (constant S_ .f32 0x3F800000#32)))
/-- The scales. -/
def refScale (x0 : (⟨S2x256x5120, .bf16⟩ : BufTy).Contents (Elt F)) : (⟨S2x256x1, .f32⟩ : BufTy).Contents (Elt F) :=
  Host.powf (broadcastInDim S2x256x1 ![] bcast_S_S2x256x1 (constant S_ .f32 0x40000000#32)) (refExp x0)
/-- The codes. -/
def refCodes (x0 : (⟨S2x256x5120, .bf16⟩ : BufTy).Contents (Elt F)) : (⟨S2x256x5120, .fp8e4m3⟩ : BufTy).Contents (Elt F) :=
  Host.convertf .fp8e4m3 (minimumf (broadcastInDim S2x256x5120 ![] bcast_S_S2x256x5120 (id (constant S_ .f32 0x43E00000#32))) (maximumf (broadcastInDim S2x256x5120 ![] bcast_S_S2x256x5120 (id (constant S_ .f32 0xC3E00000#32))) (mulf (extf .f32 x0 bitsLt_bf16_f32) (broadcastInDim S2x256x5120 ![0, 1, 2] bcast_S2x256x1_S2x256x5120_0_1_2 (Host.powf (broadcastInDim S2x256x1 ![] bcast_S_S2x256x1 (constant S_ .f32 0x40000000#32)) (Host.negf (refExp x0)))))))

/-! ## The run -/

variable (m : (ℓ : Loc nD τ sig) → Buf (Elt F) ℓ)

/-- The buffers' contents when the product is done. -/
abbrev exitV (c : Dev nD) : Valuation τ sig (Elt F) :=
  Pipeline.withArrays spec0 c (Gen.V0 m c) fun w => (Gen.dats m 0 c).arrAt w cfg0.N

/-- The product. -/
def prod (c : Dev nD) : (⟨S512x3968, .f32⟩ : BufTy).Contents (Elt F) := (Gen.dats m 0 c).arrAt 2 cfg0.N

theorem exit_main_arg2 (c : Dev nD) : exitV m c (Proc.devRef .tc main_arg2) = m ((c.tc : Thread nD τ).loc main_arg2) :=
  (Pipeline.withArrays_of_ne _ c (Gen.V0 m c) _ main_arg2 (by exact (by decide : ∀ w, Pipeline.arrRef spec0 w ≠ main_arg2))).trans (Gen.V_main_arg2 m c)
theorem exit_main_arg3 (c : Dev nD) : exitV m c (Proc.devRef .tc main_arg3) = m ((c.tc : Thread nD τ).loc main_arg3) :=
  (Pipeline.withArrays_of_ne _ c (Gen.V0 m c) _ main_arg3 (by exact (by decide : ∀ w, Pipeline.arrRef spec0 w ≠ main_arg3))).trans (Gen.V_main_arg3 m c)
theorem exit_main_v33 (c : Dev nD) : exitV m c (Proc.devRef .tc main_v33) = prod m c :=
  Pipeline.withArrays_arr spec0 Gen.launch0.win.arr_inj c (Gen.V0 m c) _ 2

set_option maxRecDepth 8192 in
set_option maxHeartbeats 2000000 in
theorem V0_main_v24 (c : Dev nD) : Gen.V0 m c (Proc.devRef .tc main_v24) = refScale (m ((c.tc : Thread nD τ).loc main_arg0)) := by
  simp only [Gen.V0, Gen.hostOps0, Gen.hostOps0_1, Gen.hostOps0_2, Gen.hostOps0_3, Gen.hostOps0_4, Gen.hostOps0_5, Gen.hostOps0_6, TRef.binary, TRef.ternary, TRef.unary, TRef.toBuf, TRef.ofBuf, cast_eq, List.flatten_cons, List.flatten_nil, List.append_nil, List.cons_append, List.nil_append]
  after_results_simp <;> rfl
theorem exit_main_v24 (c : Dev nD) : exitV m c (Proc.devRef .tc main_v24) = refScale (m ((c.tc : Thread nD τ).loc main_arg0)) :=
  (Pipeline.withArrays_of_ne _ c (Gen.V0 m c) _ main_v24 (by exact (by decide : ∀ w, Pipeline.arrRef spec0 w ≠ main_v24))).trans (V0_main_v24 m c)

set_option maxRecDepth 8192 in
set_option maxHeartbeats 2000000 in
theorem V0_main_v31 (c : Dev nD) : Gen.V0 m c (Proc.devRef .tc main_v31) = refCodes (m ((c.tc : Thread nD τ).loc main_arg0)) := by
  simp only [Gen.V0, Gen.hostOps0, Gen.hostOps0_1, Gen.hostOps0_2, Gen.hostOps0_3, Gen.hostOps0_4, Gen.hostOps0_5, Gen.hostOps0_6, TRef.binary, TRef.ternary, TRef.unary, TRef.toBuf, TRef.ofBuf, cast_eq, List.flatten_cons, List.flatten_nil, List.append_nil, List.cons_append, List.nil_append]
  after_results_simp <;> rfl
theorem exit_main_v31 (c : Dev nD) : exitV m c (Proc.devRef .tc main_v31) = refCodes (m ((c.tc : Thread nD τ).loc main_arg0)) :=
  (Pipeline.withArrays_of_ne _ c (Gen.V0 m c) _ main_v31 (by exact (by decide : ∀ w, Pipeline.arrRef spec0 w ≠ main_v31))).trans (V0_main_v31 m c)

set_option maxRecDepth 8192 in
set_option maxHeartbeats 2000000 in
theorem V0_main_v32 (c : Dev nD) : Gen.V0 m c (Proc.devRef .tc main_v32) = shapeCast S512x5120 (refCodes (m ((c.tc : Thread nD τ).loc main_arg0))) shapeCasts_S2x256x5120_S512x5120 := by
  simp only [Gen.V0, Gen.hostOps0, Gen.hostOps0_1, Gen.hostOps0_2, Gen.hostOps0_3, Gen.hostOps0_4, Gen.hostOps0_5, Gen.hostOps0_6, TRef.binary, TRef.ternary, TRef.unary, TRef.toBuf, TRef.ofBuf, cast_eq, List.flatten_cons, List.flatten_nil, List.append_nil, List.cons_append, List.nil_append]
  after_results_simp <;> rfl

set_option maxRecDepth 8192 in
set_option maxHeartbeats 2000000 in
theorem tail_main_v55 (V0 : Valuation τ sig (Elt F)) :
    after (List.flatten [Gen.hostOps1, Gen.hostOps1_1, Gen.hostOps1_2]) V0 (Proc.devRef .tc main_v55) = val_main_v55 (F := F) (V0 (Proc.devRef .tc main_arg2)) (V0 (Proc.devRef .tc main_arg3)) (V0 (Proc.devRef .tc main_v33)) (V0 (Proc.devRef .tc main_v24)) := by
  simp only [Gen.hostOps1, Gen.hostOps1_1, Gen.hostOps1_2, TRef.binary, TRef.nullary, TRef.reshape, TRef.ternary, TRef.unary, TRef.toBuf, TRef.ofBuf, cast_eq, List.flatten_cons, List.flatten_nil, List.append_nil, List.cons_append, List.nil_append]
  after_results_simp <;> rfl

set_option maxRecDepth 8192 in
set_option maxHeartbeats 2000000 in
theorem tail_main_v31 (V0 : Valuation τ sig (Elt F)) :
    after (List.flatten [Gen.hostOps1, Gen.hostOps1_1, Gen.hostOps1_2]) V0 (Proc.devRef .tc main_v31) = V0 (Proc.devRef .tc main_v31) := by
  simp only [Gen.hostOps1, Gen.hostOps1_1, Gen.hostOps1_2, TRef.binary, TRef.nullary, TRef.reshape, TRef.ternary, TRef.unary, TRef.toBuf, TRef.ofBuf, cast_eq, List.flatten_cons, List.flatten_nil, List.append_nil, List.cons_append, List.nil_append]
  after_results_simp <;> rfl

set_option maxRecDepth 8192 in
set_option maxHeartbeats 2000000 in
theorem tail_main_v24 (V0 : Valuation τ sig (Elt F)) :
    after (List.flatten [Gen.hostOps1, Gen.hostOps1_1, Gen.hostOps1_2]) V0 (Proc.devRef .tc main_v24) = V0 (Proc.devRef .tc main_v24) := by
  simp only [Gen.hostOps1, Gen.hostOps1_1, Gen.hostOps1_2, TRef.binary, TRef.nullary, TRef.reshape, TRef.ternary, TRef.unary, TRef.toBuf, TRef.ofBuf, cast_eq, List.flatten_cons, List.flatten_nil, List.append_nil, List.cons_append, List.nil_append]
  after_results_simp <;> rfl

/-- The loss. -/
def refLoss (c : Dev nD) : (⟨S2x256, .f32⟩ : BufTy).Contents (Elt F) :=
  val_main_v55 (m ((c.tc : Thread nD τ).loc main_arg2)) (m ((c.tc : Thread nD τ).loc main_arg3)) (prod m c) (refScale (m ((c.tc : Thread nD τ).loc main_arg0)))

theorem fin_main_v55 (c : Dev nD) :
    Pipeline.afterTail₀ cfgs (Gen.dats m) 0 (Gen.V0 m) [Gen.hostOps1, Gen.hostOps1_1, Gen.hostOps1_2] c main_v55 = refLoss m c := by
  refine (tail_main_v55 (exitV m c)).trans ?_
  rw [exit_main_arg2, exit_main_arg3, exit_main_v33, exit_main_v24]; rfl
theorem fin_main_v31 (c : Dev nD) :
    Pipeline.afterTail₀ cfgs (Gen.dats m) 0 (Gen.V0 m) [Gen.hostOps1, Gen.hostOps1_1, Gen.hostOps1_2] c main_v31 = refCodes (m ((c.tc : Thread nD τ).loc main_arg0)) :=
  (tail_main_v31 (exitV m c)).trans (exit_main_v31 m c)
theorem fin_main_v24 (c : Dev nD) :
    Pipeline.afterTail₀ cfgs (Gen.dats m) 0 (Gen.V0 m) [Gen.hostOps1, Gen.hostOps1_1, Gen.hostOps1_2] c main_v24 = refScale (m ((c.tc : Thread nD τ).loc main_arg0)) :=
  (tail_main_v24 (exitV m c)).trans (exit_main_v24 m c)

/-- The reference ends with the loss, the codes and the scales, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v55) = refLoss m c
      ∧ r.2.mem ((c.tc : Thread nD τ).loc main_v31) = refCodes (m ((c.tc : Thread nD τ).loc main_arg0))
      ∧ r.2.mem ((c.tc : Thread nD τ).loc main_v24) = refScale (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v55 (Pipeline.mem_restRefs_of main_v55 (by decide) (by decide))).trans (fin_main_v55 m c),
      ((h c).2 main_v31 (Pipeline.mem_restRefs_of main_v31 (by decide) (by decide))).trans (fin_main_v31 m c),
      ((h c).2 main_v24 (Pipeline.mem_restRefs_of main_v24 (by decide) (by decide))).trans (fin_main_v24 m c),
      ((h c).2 main_arg0 (Pipeline.mem_restRefs_of main_arg0 (by decide) (by decide))).trans (Gen.W_main_arg0 m (Gen.dats m) c),
      ((h c).1 1).trans (((Gen.dats m 0 c).arrAt_in 1 rfl _).trans ((Gen.A_eq m c 1).trans (Gen.V_main_arg1 m c))),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c)⟩) (Gen.run_main m ρ)

end Cert.ReferenceIdeal.Hand

end
-- ==== Proof.RefQuant.lean ====
module

public import proofs.«01_k».proof.Proof.RefRead
public import proofs.«01_k».proof.Proof.Scale
public import Idealize.ShloMosaic.Lib.ValueIdxCore
public import Idealize.ShloMosaic.Lib.IdealHost

/-! The reference's scales and codes at an index. -/

@[expose] public section

noncomputable section

namespace Cert.ReferenceIdeal.Hand

open Cert.ReferenceIdeal Cert.ReferenceIdeal.Gen Idealize.ShloMosaic Idealize.ShloMosaic.TcCoe Idealize.ShloMosaic.ValueIdx
open Cert.Scale

section Generic
variable {F : FTy → Type} [FloatOps F]

theorem refT_pt (x0 : (⟨S2x256x5120, .bf16⟩ : BufTy).Contents (Elt F)) (i : S2x256x1.Idx) : refT x0 i
    = FloatOps.mulf (broadcastInDim S2x256x1 ![0, 1] bcast_S2x256_S2x256x1_0_1 (Host.reduce FloatOps.maximumf (Host.absf (extf .f32 x0 bitsLt_bf16_f32)) (constant S_ .f32 0xFF800000#32) reducesTo_S2x256x5120_S2x256_d2 h_S_) i) (FloatOps.ofBits .f32 0x3B124925#32) := rfl
theorem refExps_pt (i : S254.Idx) : refExps (F := F) i = FloatOps.addf (FloatOps.ofBits .f32 0xC2FC0000#32) (FloatOps.sitofp .f32 (BitVec.ofNat 32 (i 0).val)) := rfl
theorem refPows_pt (i : S254.Idx) : refPows (F := F) i = FloatOps.hostPowf (FloatOps.ofBits .f32 0x40000000#32) (refExps (F := F) i) := rfl
/-- The list the exponent is the largest of. -/
def refList (x0 : (⟨S2x256x5120, .bf16⟩ : BufTy).Contents (Elt F)) : (⟨S2x256x254, .f32⟩ : BufTy).Contents (Elt F) :=
  select (cmpf .ole (broadcastInDim S2x256x254 ![0, 1, 2] bcast_S1x1x254_S2x256x254_0_1_2 (broadcastInDim S1x1x254 ![2] bcast_S254_S1x1x254_2 (refPows))) (broadcastInDim S2x256x254 ![0, 1, 2] bcast_S2x256x1_S2x256x254_0_1_2 (refT x0))) (broadcastInDim S2x256x254 ![2] bcast_S254_S2x256x254_2 (refExps)) (broadcastInDim S2x256x254 ![] bcast_S_S2x256x254 (id (constant S_ .f32 0xFF800000#32)))
theorem refTop_eq (x0 : (⟨S2x256x5120, .bf16⟩ : BufTy).Contents (Elt F)) : refTop x0
    = Host.reduce FloatOps.maximumf (refList x0) (constant S_ .f32 0xFF800000#32) reducesTo_S2x256x254_S2x256_d2 h_S_ := rfl
theorem refList_pt (x0 : (⟨S2x256x5120, .bf16⟩ : BufTy).Contents (Elt F)) (b : Fin 2) (s : Fin 256) (k : Fin 254) : refList x0 (ix3 b s k)
    = Scalar.select (FloatOps.cmpf .ole (refPows (F := F) (ix1 k)) (refT x0 (ix3 b s 0))) (refExps (F := F) (ix1 k)) (FloatOps.ofBits .f32 0xFF800000#32) := by
  have e1 : broadcastInDim S2x256x254 ![0, 1, 2] bcast_S1x1x254_S2x256x254_0_1_2 (broadcastInDim S1x1x254 ![2] bcast_S254_S1x1x254_2 (refPows (F := F))) (ix3 b s k) = refPows (F := F) (ix1 k) := by
    refine (broadcastInDim_apply _ _ _ (ix3 b s k) (ix3 0 0 k) (fun a => by
      match a with
      | ⟨0, _⟩ => rfl
      | ⟨1, _⟩ => rfl
      | ⟨2, _⟩ => rfl)).trans ?_
    exact (broadcastInDim_apply _ _ _ (ix3 0 0 k) (ix1 k) (fun a => by
      match a with
      | ⟨0, _⟩ => rfl))
  have e2 : broadcastInDim S2x256x254 ![0, 1, 2] bcast_S2x256x1_S2x256x254_0_1_2 (refT x0) (ix3 b s k) = refT x0 (ix3 b s 0) := by
    exact (broadcastInDim_apply _ _ _ (ix3 b s k) (ix3 b s 0) (fun a => by
      match a with
      | ⟨0, _⟩ => rfl
      | ⟨1, _⟩ => rfl
      | ⟨2, _⟩ => rfl))
  have e3 : broadcastInDim S2x256x254 ![2] bcast_S254_S2x256x254_2 (refExps (F := F)) (ix3 b s k) = refExps (F := F) (ix1 k) := by
    exact (broadcastInDim_apply _ _ _ (ix3 b s k) (ix1 k) (fun a => by
      match a with
      | ⟨0, _⟩ => rfl))
  unfold refList
  rw [select_apply, cmpf_apply, e1, e2, e3]
  rfl
theorem refExp_pt (x0 : (⟨S2x256x5120, .bf16⟩ : BufTy).Contents (Elt F)) (b : Fin 2) (s : Fin 256) (z : Fin 1) : refExp x0 (ix3 b s z)
    = Scalar.select (FloatOps.cmpf .olt (refT x0 (ix3 b s z)) (FloatOps.ofBits .f32 0x00800000#32)) (FloatOps.ofBits .f32 0x00000000#32)
        (FloatOps.addf (refTop x0 (ix2 b s)) (FloatOps.ofBits .f32 0x3F800000#32)) := by
  rw [← broadcastInDim_apply ![0, 1] bcast_S2x256_S2x256x1_0_1 (refTop x0) (ix3 b s z) (ix2 b s) (fun a => by
    match a with
    | ⟨0, _⟩ => rfl
    | ⟨1, _⟩ => rfl)]
  rfl
theorem refScale_pt (x0 : (⟨S2x256x5120, .bf16⟩ : BufTy).Contents (Elt F)) (i : S2x256x1.Idx) : refScale x0 i
    = FloatOps.hostPowf (FloatOps.ofBits .f32 0x40000000#32) (refExp x0 i) := rfl
theorem refCodes_pt (x0 : (⟨S2x256x5120, .bf16⟩ : BufTy).Contents (Elt F)) (b : Fin 2) (s : Fin 256) (j : Fin 5120) : refCodes x0 (ix3 b s j)
    = FloatOps.hostConvertf .fp8e4m3 (FloatOps.minimumf (FloatOps.ofBits .f32 0x43E00000#32) (FloatOps.maximumf (FloatOps.ofBits .f32 0xC3E00000#32)
        (FloatOps.mulf (FloatOps.extf .f32 bitsLt_bf16_f32 (x0 (ix3 b s j))) (FloatOps.hostPowf (FloatOps.ofBits .f32 0x40000000#32) (FloatOps.hostNegf (refExp x0 (ix3 b s 0))))))) := by
  show _ = FloatOps.hostConvertf .fp8e4m3 (FloatOps.minimumf (FloatOps.ofBits .f32 0x43E00000#32) (FloatOps.maximumf (FloatOps.ofBits .f32 0xC3E00000#32)
        (FloatOps.mulf (FloatOps.extf .f32 bitsLt_bf16_f32 (x0 (ix3 b s j))) ((Host.powf (broadcastInDim S2x256x1 ![] bcast_S_S2x256x1 (constant S_ .f32 0x40000000#32)) (Host.negf (refExp x0))) (ix3 b s 0)))))
  rw [← broadcastInDim_apply ![0, 1, 2] bcast_S2x256x1_S2x256x5120_0_1_2 (Host.powf (broadcastInDim S2x256x1 ![] bcast_S_S2x256x1 (constant S_ .f32 0x40000000#32)) (Host.negf (refExp x0))) (ix3 b s j) (ix3 b s 0) (fun a => by
    match a with
    | ⟨0, _⟩ => rfl
    | ⟨1, _⟩ => rfl
    | ⟨2, _⟩ => rfl)]
  rfl

end Generic

/-- The input. -/
abbrev X0 := (⟨S2x256x5120, EltTy.bf16⟩ : BufTy).Contents (Elt Ideal)

/-- A token of the input. -/
def row (x0 : X0) (b : Fin 2) (s : Fin 256) : Fin 5120 → EReal := fun j => x0 (ix3 b s j)

theorem bconst {t : Shape} (h : S_.BroadcastsInDim t ![]) (w : BitVec 32) (i : t.Idx) :
    broadcastInDim t ![] h (constant (F := Ideal) S_ .f32 w) i = Ideal.ofBits .f32 w := rfl

theorem neg_inf : Ideal.ofBits .f32 0xFF800000#32 = ⊥ := by simp [Ideal.ofBits, Ideal.ieee]
theorem two : Ideal.ofBits .f32 0x40000000#32 = ((2 : ℝ) : EReal) := by
  rw [show (0x40000000#32 : BitVec 32) = word 128 from rfl, ofBits_word 128 (by omega) (by omega)]
  unfold pw; norm_num
theorem least : Ideal.ofBits .f32 0x00800000#32 = ((pw 1 : ℝ) : EReal) := by
  rw [show (0x00800000#32 : BitVec 32) = word 1 from rfl, ofBits_word 1 (by omega) (by omega)]
theorem low : Ideal.ofBits .f32 0xC2FC0000#32 = ((-126 : ℝ) : EReal) := by
  simp only [Ideal.ofBits, Ideal.ieee, show ((0xC2FC0000#32 : BitVec 32).extractLsb' 23 8).toNat = 133 from rfl,
    show ((0xC2FC0000#32 : BitVec 32).extractLsb' 0 23).toNat = 8126464 from rfl, show ((0xC2FC0000#32 : BitVec 32).extractLsb' 31 1 == 1#1) = true from rfl]
  rw [if_neg (by decide), if_neg (by decide), if_pos trivial]
  refine congrArg Real.toEReal ?_
  norm_num

theorem red5120 : S2x256x5120.Reduces [2] S2x256 := by decide
theorem red254 : S2x256x254.Reduces [2] S2x256 := by decide

/-- A host maximum over the last axis is the largest element. -/
theorem hmax {s t : Shape} {a : Fin s.rank} (x : FVec Ideal s .f32) (h' : s.ReducesTo [a] t) (h : s.Reduces [a] t) (hu : 0 < S_.numel) (j : t.Idx) :
    Host.reduce FloatOps.maximumf x (constant (F := Ideal) S_ .f32 0xFF800000#32) h' hu j
      = (Finset.univ : Finset (Fin (s.size a))).sup fun k => (x (h.lift j k) : EReal) := by
  refine (Host.reduce_eq_fold_single (α := EReal) max x (constant (F := Ideal) S_ .f32 0xFF800000#32) h' h hu j).trans ?_
  rw [show (constant (F := Ideal) S_ .f32 0xFF800000#32 (Shape.Idx.first hu) : EReal) = ⊥ from neg_inf]
  rfl

theorem idealMul (x y : EReal) : FloatOps.mulf (F := Ideal) (φ := .f32) x y = x * y := rfl
theorem idealAdd (x y : EReal) : FloatOps.addf (F := Ideal) (φ := .f32) x y = x + y := rfl
theorem idealPow (x y : EReal) : FloatOps.hostPowf (F := Ideal) (φ := .f32) x y = Ideal.pow x y := rfl
theorem idealNeg (x : EReal) : FloatOps.hostNegf (F := Ideal) (φ := .f32) x = -x := rfl
theorem idealOle (x y : EReal) : FloatOps.cmpf (F := Ideal) (φ := .f32) .ole x y = BitVec.ofBool (decide (x ≤ y)) := rfl
theorem idealOlt (x y : EReal) : FloatOps.cmpf (F := Ideal) (φ := .f32) .olt x y = BitVec.ofBool (decide (x < y)) := rfl
theorem idealInt (x : BitVec 32) : FloatOps.sitofp (F := Ideal) .f32 x = ((x.toInt : ℝ) : EReal) := rfl
theorem idealClip (a b x : EReal) : FloatOps.hostConvertf (F := Ideal) .fp8e4m3 (FloatOps.minimumf (F := Ideal) (φ := .f32) a (FloatOps.maximumf (F := Ideal) (φ := .f32) b x))
    = min a (max b x) := rfl

/-- A per-token value kept with a trailing unit axis. -/
theorem bcol {α : Type} (x : S2x256.Idx → α) (b : Fin 2) (s : Fin 256) (z : Fin 1) :
    broadcastInDim S2x256x1 ![0, 1] bcast_S2x256_S2x256x1_0_1 x (ix3 b s z) = x (ix2 b s) :=
  broadcastInDim_apply ![0, 1] bcast_S2x256_S2x256x1_0_1 x (ix3 b s z) (ix2 b s) (fun a => by
    match a with
    | ⟨0, _⟩ => rfl
    | ⟨1, _⟩ => rfl)

theorem refT_at (x0 : X0) (b : Fin 2) (s : Fin 256) (z : Fin 1) : refT (F := Ideal) x0 (ix3 b s z) = quo (row x0 b s) := by
  unfold quo
  rw [refT_pt, idealMul, Ideal.ofBits_def]
  suffices h : broadcastInDim S2x256x1 ![0, 1] bcast_S2x256_S2x256x1_0_1 (Host.reduce FloatOps.maximumf (Host.absf (extf .f32 x0 bitsLt_bf16_f32)) (constant (F := Ideal) S_ .f32 0xFF800000#32) reducesTo_S2x256x5120_S2x256_d2 h_S_) (ix3 b s z) = amax (row x0 b s) by rw [h]
  rw [bcol]
  refine (hmax _ _ red5120 _ _).trans ?_
  unfold amax
  refine Finset.sup_congr rfl fun j _ => ?_
  have e : (red5120.lift (ix2 b s) j : S2x256x5120.Idx) = ix3 b s j := by
    funext a; match a with
    | ⟨0, _⟩ => rfl
    | ⟨1, _⟩ => rfl
    | ⟨2, _⟩ => rfl
  rw [e]; rfl

theorem refExps_at (k : Fin 254) : refExps (F := Ideal) (ix1 k) = (((k.val : ℝ) - 126 : ℝ) : EReal) := by
  rw [refExps_pt, idealAdd, Ideal.ofBits_def, low, idealInt, ← EReal.coe_add]
  refine congrArg Real.toEReal ?_
  rw [show (BitVec.ofNat 32 ((ix1 k : S254.Idx) 0).val).toInt = (k.val : ℤ) from by
    have := k.isLt
    show (BitVec.ofNat 32 k.val).toInt = (k.val : ℤ)
    rw [BitVec.toInt_eq_toNat_of_lt (by rw [BitVec.toNat_ofNat]; omega), BitVec.toNat_ofNat]; congr 1; omega]
  push_cast; ring

theorem refPows_at (k : Fin 254) : refPows (F := Ideal) (ix1 k) = ((pw (k.val + 1) : ℝ) : EReal) := by
  rw [refPows_pt, idealPow, Ideal.ofBits_def, two, refExps_at]
  rw [show ((k.val : ℝ) - 126 : ℝ) = (((k.val : ℤ) - 126 : ℤ) : ℝ) from by push_cast; rfl, pow_two_int]
  refine congrArg Real.toEReal ?_
  unfold pw
  refine congrArg _ ?_
  push_cast; ring

theorem sel_prop {α : Type} (p : Prop) [Decidable p] (a b : α) : Scalar.select (BitVec.ofBool (decide p)) a b = if p then a else b := by
  by_cases h : p
  · rw [decide_eq_true h, if_pos h]; rfl
  · rw [decide_eq_false h, if_neg h]; rfl

theorem refTop_at (x0 : X0) (b : Fin 2) (s : Fin 256) (n : ℕ) (hl : Level (quo (row x0 b s)) n) (hn : 1 ≤ n) :
    refTop (F := Ideal) x0 (ix2 b s) = (((n : ℝ) - 127 : ℝ) : EReal) := by
  rw [refTop_eq, ← sup_level _ n hl hn]
  refine (hmax _ _ red254 _ _).trans ?_
  refine Finset.sup_congr rfl fun (k : Fin 254) _ => ?_
  have e : (red254.lift (ix2 b s) k : S2x256x254.Idx) = (ix3 b s k : S2x256x254.Idx) := by
    funext a; match a with
    | ⟨0, _⟩ => rfl
    | ⟨1, _⟩ => rfl
    | ⟨2, _⟩ => rfl
  refine (congrArg (refList (F := Ideal) x0) e).trans ?_
  refine (refList_pt (F := Ideal) x0 b s k).trans ?_
  rw [refT_at, refPows_at, refExps_at, idealOle, Ideal.ofBits_def, neg_inf, sel_prop]

theorem refExp_at (x0 : X0) (b : Fin 2) (s : Fin 256) (n : ℕ) (hl : Level (quo (row x0 b s)) n) (z : Fin 1) :
    refExp (F := Ideal) x0 (ix3 b s z) = (((if n = 0 then 0 else (n : ℤ) - 126 : ℤ) : ℝ) : EReal) := by
  have hb := hl.1
  rw [refExp_pt, refT_at, idealOlt, Ideal.ofBits_def, Ideal.ofBits_def, Ideal.ofBits_def, least, idealAdd, Ideal.ofBits_one_f32, Ideal.ofBits_zero_f32, sel_prop]
  have hk := hl.2 1 le_rfl (by omega)
  by_cases hn : n = 0
  · rw [if_pos (by rw [← not_le, hk]; omega), if_pos hn]; norm_num
  · rw [if_neg (by rw [not_lt, hk]; omega), if_neg hn, refTop_at x0 b s n hl (by omega)]
    show (((n : ℝ) - 127 : ℝ) : EReal) + ((1 : ℝ) : EReal) = _
    rw [← EReal.coe_add]
    refine congrArg Real.toEReal ?_
    push_cast; ring

theorem refScale_at (x0 : X0) (b : Fin 2) (s : Fin 256) (n : ℕ) (hl : Level (quo (row x0 b s)) n) (z : Fin 1) :
    refScale (F := Ideal) x0 (ix3 b s z) = sc n := by
  rw [refScale_pt, idealPow, Ideal.ofBits_def, two, refExp_at x0 b s n hl, pow_two_int]
  unfold sc
  split
  · norm_num
  · rfl

theorem refCodes_at (x0 : X0) (b : Fin 2) (s : Fin 256) (n : ℕ) (hl : Level (quo (row x0 b s)) n) (j : Fin 5120) :
    refCodes (F := Ideal) x0 (ix3 b s j)
      = min (Ideal.ofBits .f32 0x43E00000#32) (max (Ideal.ofBits .f32 0xC3E00000#32) (x0 (ix3 b s j) * isc n)) := by
  have e : isc n = Ideal.pow ((2 : ℝ) : EReal) (-(refExp (F := Ideal) x0 (ix3 b s 0) : EReal)) := by
    rw [refExp_at x0 b s n hl, ← EReal.coe_neg, ← Int.cast_neg, pow_two_int]
    unfold isc
    split
    · norm_num
    · rfl
  rw [refCodes_pt, idealClip, e, idealMul, idealPow, idealNeg, Ideal.ofBits_def, Ideal.ofBits_def, Ideal.ofBits_def, two]
  rfl

end Cert.ReferenceIdeal.Hand

end
-- ==== Proof.RefLoss.lean ====
module

public import proofs.«01_k».proof.Proof.RefQuant
public import proofs.«01_k».proof.Proof.Online
public import Idealize.ShloMosaic.Lib.Pipeline.ValueKit.Geometry
public import Idealize.ShloMosaic.Lib.MatmulPlain

/-! The reference's product, logits and loss at an index. -/

@[expose] public section

noncomputable section

namespace Cert.ReferenceIdeal.Hand

open Cert.ReferenceIdeal Cert.ReferenceIdeal.Gen Idealize.ShloMosaic Idealize.ShloMosaic.TcCoe Idealize.ShloMosaic.ValueIdx Idealize.SL.Sem
open Cert.Scale

section Generic
variable {F : FTy → Type} [FloatOps F]
variable (m : (ℓ : Loc nD τ sig) → Buf (Elt F) ℓ)

/-- The one grid point of the product. -/
def tOnly : Fin cfg0.N := ⟨0, lt_of_lt_of_eq (by decide) (show cfg0.N = 1 from N_0).symm⟩

theorem zeros2 : (![0, 0] : Fin 2 → Nat) = fun _ => 0 := by
  funext a; match a with
  | ⟨0, _⟩ => rfl
  | ⟨1, _⟩ => rfl

theorem out_eq (x0 : Vec F S512x5120 .fp8e4m3) (x1 : Vec F S3968x5120 .fp8e4m3) : out0_2 x0 x1 = k0_pay1 x0 x1 := by
  unfold out0_2
  rw [View.canon_unit_zero (S := S512x3968) zeros2, View.ld_unit_zero (S := S512x5120) zeros2, View.ld_unit_zero (S := S3968x5120) zeros2]

theorem prod_eq (c : Dev nD) : prod m c = k0_pay1 (iblk m c 0 tOnly : Vec F S512x5120 .fp8e4m3) (iblk m c 1 tOnly : Vec F S3968x5120 .fp8e4m3) :=
  (dats m 0 c).arrAt_eq_of_after_last 2 tOnly (by decide +kernel) _ fun j => by
    rw [after0_2, out_eq]; rfl

theorem pblock_0 (c : Dev nD) (b : Fin 2) (s : Fin 256) (r : Fin 512) (hr : r.val = 256 * b.val + s.val) (k : Fin 5120) :
    (iblk m c 0 tOnly : Vec F S512x5120 .fp8e4m3) (ix2 r k) = refCodes (m ((c : Thread nD τ).loc main_arg0)) (ix3 b s k) := by
  have hi : win0_0.index tOnly 0 = 0 ∧ win0_0.index tOnly 1 = 0 := by decide
  unfold iblk
  rw [View.read_apply]
  show V0 m c (Proc.devRef .tc main_v32) _ = _
  rw [V0_main_v32]
  refine shapeCast_apply _ shapeCasts_S2x256x5120_S512x5120 _ (ix3 b s k) ?_
  rw [Shape.rowMajor_val_three, Shape.rowMajor_val_two]
  show (b.val * 256 + s.val) * 5120 + k.val = (win0_0.index tOnly 0 * 512 + 1 * r.val) * 5120 + (win0_0.index tOnly 1 * 5120 + 1 * k.val)
  rw [hi.1, hi.2]; omega

theorem pblock_1 (c : Dev nD) (v : Fin 3968) (k : Fin 5120) :
    (iblk m c 1 tOnly : Vec F S3968x5120 .fp8e4m3) (ix2 v k) = m ((c : Thread nD τ).loc main_arg1) (ix2 v k) := by
  have hi : win0_1.index tOnly 0 = 0 ∧ win0_1.index tOnly 1 = 0 := by decide
  refine Eq.trans ?_ (congrFun (V_main_arg1 m c) (ix2 v k))
  unfold iblk
  rw [View.read_apply]
  show V m c main_arg1 _ = _
  congr 1
  funext a; apply Fin.ext
  match a with
  | ⟨0, _⟩ => show win0_1.index tOnly 0 * 3968 + 1 * v.val = v.val; rw [hi.1]; omega
  | ⟨1, _⟩ => show win0_1.index tOnly 1 * 5120 + 1 * k.val = k.val; rw [hi.2]; omega

theorem prodPay_pt (x : Vec F S512x5120 .fp8e4m3) (w : Vec F S3968x5120 .fp8e4m3) :
    k0_pay1 x w = matmul (DotDims.transposedRhs 512 5120 3968) none (shapeCast S512x5120 x (by decide)) w (constant S512x3968 .f32 0x00000000#32) := rfl

/-- The part each operand axis has in the gather. -/
theorem gmem : (0 : Fin 3) ∈ (gather_S2x256x3968_S2x256x1x1_S2x256x1_n_2_01_01_2_3_111).operandBatchingDims
    ∧ (1 : Fin 3) ∈ (gather_S2x256x3968_S2x256x1x1_S2x256x1_n_2_01_01_2_3_111).operandBatchingDims
    ∧ (2 : Fin 3) ∉ (gather_S2x256x3968_S2x256x1x1_S2x256x1_n_2_01_01_2_3_111).operandBatchingDims
    ∧ (2 : Fin 3) ∈ (gather_S2x256x3968_S2x256x1x1_S2x256x1_n_2_01_01_2_3_111).collapsedSliceDims
    ∧ (2 : Fin 3) ∈ (gather_S2x256x3968_S2x256x1x1_S2x256x1_n_2_01_01_2_3_111).startIndexMap := by decide

/-- The gather of one entry of each token's row. -/
theorem gather_pt {α : Type} (x : S2x256x3968.Idx → α) (idx : IVec S2x256x1x1 32) (b : Fin 2) (s : Fin 256) (z : Fin 1) :
    Host.gather gather_S2x256x3968_S2x256x1x1_S2x256x1_n_2_01_01_2_3_111 x idx (ix3 b s z)
      = x (ix3 b s ⟨min (idx (ix4 b s z 0)).toInt.toNat 3967, by omega⟩) := by
  unfold Host.gather
  congr 1
  funext a
  refine Fin.ext ?_
  generalize hd : gather_S2x256x3968_S2x256x1x1_S2x256x1_n_2_01_01_2_3_111 = d
  show d.start (ix3 b s z) idx a + d.batchCoord (ix3 b s z) a + d.offCoord (ix3 b s z) a = _
  subst hd
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ gmem.1,
      GatherDims.offCoord_eq_zero _ _ _ (fun h => ((GatherDims.mem_sKept _ _).mp h).2 gmem.1)]
    simp only [Nat.zero_add, Nat.add_zero]
    unfold GatherDims.batchCoord
    rw [dif_pos gmem.1]
    rfl
  · rw [GatherDims.start_batching _ _ _ _ gmem.2.1,
      GatherDims.offCoord_eq_zero _ _ _ (fun h => ((GatherDims.mem_sKept _ _).mp h).2 gmem.2.1)]
    simp only [Nat.zero_add, Nat.add_zero]
    unfold GatherDims.batchCoord
    rw [dif_pos gmem.2.1]
    rfl
  · rw [GatherDims.batchCoord_eq_zero _ _ _ gmem.2.2.1,
      GatherDims.offCoord_eq_zero _ _ _ (fun h => ((GatherDims.mem_sKept _ _).mp h).1 gmem.2.2.2.1)]
    simp only [Nat.add_zero]
    unfold GatherDims.start
    rw [dif_pos gmem.2.2.2.2]
    refine congrArg (fun q : S2x256x1x1.Idx => min (idx q).toInt.toNat 3967) ?_
    funext q; refine Fin.ext ?_
    match q with
    | ⟨0, _⟩ => rfl
    | ⟨1, _⟩ => rfl
    | ⟨2, _⟩ => rfl
    | ⟨3, _⟩ => rfl

variable (x2 : (⟨S3968x1, .f32⟩ : BufTy).Contents (Elt F)) (x3 : (⟨S2x256, .i32⟩ : BufTy).Contents (Elt F))
  (r0 : (⟨S512x3968, .f32⟩ : BufTy).Contents (Elt F)) (e0 : (⟨S2x256x1, .f32⟩ : BufTy).Contents (Elt F))

theorem logit_pt (b : Fin 2) (s : Fin 256) (r : Fin 512) (hr : r.val = 256 * b.val + s.val) (v : Fin 3968) :
    val_main_v40 x2 r0 e0 (ix3 b s v) = FloatOps.mulf (FloatOps.mulf (r0 (ix2 r v)) (e0 (ix3 b s 0))) (x2 (ix2 v 0)) := by
  rw [val_main_v40_apply, val_main_v36_apply, val_main_v34_apply, val_main_v35_apply, val_main_v39_apply, val_main_v38_apply, val_main_v37_apply]
  have e1 : idx_main_v34 (ix3 b s v) = ix2 r v := by
    funext a; apply Fin.ext
    have := b.isLt; have := s.isLt; have := v.isLt
    match a with
    | ⟨0, _⟩ => show ((b.val * 256 + s.val) * 3968 + v.val) / 3968 = r.val; omega
    | ⟨1, _⟩ => show ((b.val * 256 + s.val) * 3968 + v.val) % 3968 = v.val; omega
  rw [e1]
  congr 1
  · congr 2
    funext a; apply Fin.ext
    match a with
    | ⟨0, _⟩ => rfl
    | ⟨1, _⟩ => rfl
    | ⟨2, _⟩ => rfl
  · congr 1
    funext a; apply Fin.ext
    have := v.isLt
    match a with
    | ⟨0, _⟩ => first | rfl | (show v.val / 1 = v.val; omega) | (show v.val / 1 % 3968 = v.val; omega) | (show v.val % 3968 = v.val; omega)
    | ⟨1, _⟩ => rfl

theorem sumExp_pt (b : Fin 2) (s : Fin 256) (v : Fin 3968) :
    val_main_v45 x2 r0 e0 (ix3 b s v) = FloatOps.hostUnary .exp (FloatOps.subf (val_main_v40 x2 r0 e0 (ix3 b s v)) (val_main_v41 x2 r0 e0 (ix2 b s))) := by
  rw [val_main_v45_apply, val_main_v44_apply, val_main_v43_apply, val_main_v42_apply]
  congr 3
  funext a; apply Fin.ext
  match a with
  | ⟨0, _⟩ => rfl
  | ⟨1, _⟩ => rfl

theorem cmp_ge {l : BitVec 32} (h : IntOp.cmpi .sge l 0#32 = 1#1) (h' : IntOp.cmpi .slt l 3968#32 = 1#1) :
    l.toNat < 3968 ∧ IntOp.cmpi .slt l 0#32 = 0#1 ∧ IntOp.cmpi .sle l 3967#32 = 1#1 ∧ l.toInt.toNat = l.toNat := by
  have e1 : (0#32).sle l = true := by
    cases hb : (0#32).sle l with
    | true => rfl
    | false =>
      have : IntOp.cmpi .sge l 0#32 = BitVec.ofBool ((0#32).sle l) := rfl
      rw [this, hb] at h; exact absurd h (by decide)
  have e2 : l.slt 3968#32 = true := by
    cases hb : l.slt 3968#32 with
    | true => rfl
    | false =>
      have : IntOp.cmpi .slt l 3968#32 = BitVec.ofBool (l.slt 3968#32) := rfl
      rw [this, hb] at h'; exact absurd h' (by decide)
  rw [BitVec.sle_eq_decide, decide_eq_true_eq] at e1
  rw [BitVec.slt_eq_decide, decide_eq_true_eq] at e2
  have t1 : (0#32).toInt = 0 := by decide
  have t2 : (3968#32).toInt = 3968 := by decide
  have t3 : (3967#32).toInt = 3967 := by decide
  rw [t1] at e1; rw [t2] at e2
  have e3 : l.toInt.toNat = l.toNat := by
    have hl := l.isLt
    have hc := BitVec.toInt_eq_toNat_cond l
    split at hc <;> omega
  refine ⟨by omega, ?_, ?_, e3⟩
  · show BitVec.ofBool (l.slt 0#32) = 0#1
    rw [BitVec.slt_eq_decide, t1, decide_eq_false (by omega)]; rfl
  · show BitVec.ofBool (l.sle 3967#32) = 1#1
    rw [BitVec.sle_eq_decide, t3, decide_eq_true (by omega)]; rfl

section Label
variable (b : Fin 2) (s : Fin 256) (hge : IntOp.cmpi .sge (x3 (ix2 b s)) 0#32 = 1#1) (hlt : IntOp.cmpi .slt (x3 (ix2 b s)) 3968#32 = 1#1)

include hge hlt in
/-- A label in the vocabulary is looked up as it is. -/
theorem label_at (i : S2x256x1x1.Idx) (h0 : i 0 = b) (h1 : i 1 = s) : val_main_call3_v5 x3 i = x3 (ix2 b s) := by
  rw [val_main_call3_v5_apply, val_main_call3_v4_apply, val_main_call3_v1_apply, val_main_v50_apply]
  have e : idx_main_v50 (idx_main_call3_v5 i) = ix2 b s := by
    have := b.isLt; have := s.isLt
    have e0 : (i 0).val = b.val := congrArg Fin.val h0
    have e1 : (i 1).val = s.val := congrArg Fin.val h1
    have e2 : (i 2).val < 1 := (i 2).isLt
    have e3 : (i 3).val < 1 := (i 3).isLt
    funext a; apply Fin.ext
    match a with
    | ⟨0, _⟩ => show ((((i 0).val * 256 + (i 1).val) * 1 + (i 2).val) * 1 + (i 3).val) / 256 = b.val; omega
    | ⟨1, _⟩ => show ((((i 0).val * 256 + (i 1).val) * 1 + (i 2).val) * 1 + (i 3).val) / 1 % 256 = s.val; omega
  rw [e]
  have hz : val_main_call3_v0 (F := F) (idx_main_call3_v5 i) = 0#32 := by
    rw [val_main_call3_v0_apply, val_main_call3_c_apply]
  rw [hz, (cmp_ge hge hlt).2.1]
  rfl

instance : Std.Commutative (IntOp.andi : BitVec 1 → BitVec 1 → BitVec 1) := ⟨BitVec.and_comm⟩
instance : Std.Associative (IntOp.andi : BitVec 1 → BitVec 1 → BitVec 1) := ⟨BitVec.and_assoc⟩

include hge hlt in
theorem inside_at (z : Fin 1) : val_main_call3_v12 (F := F) x3 (ix3 b s z) = 1#1 := by
  unfold val_main_call3_v12
  have hr : S2x256x1x1.Reduces [3] S2x256x1 := by decide
  refine (Host.reduce_eq_fold_single IntOp.andi _ _ _ hr h_S_ (ix3 b s z)).trans ?_
  have hk : ∀ k : Fin (S2x256x1x1.size 3), (val_main_call3_v11 (F := F) x3 ∘ hr.lift (ix3 b s z)) k = 1#1 := by
    intro k
    show val_main_call3_v11 (F := F) x3 (hr.lift (ix3 b s z) k) = 1#1
    rw [val_main_call3_v11_apply, val_main_call3_v7_apply, val_main_call3_v10_apply, label_at x3 b s hge hlt _ rfl rfl,
      val_main_call3_v6_apply, val_main_call3_v9_apply, val_main_call3_v8_apply]
    rw [val_main_call3_c_2_apply, val_main_call3_c_1_apply, hge, (cmp_ge hge hlt).2.2.1]
    rfl
  rw [Finset.fold_congr (g := fun _ => 1#1) (fun k _ => hk k), val_main_call3_c_3_apply]
  rfl

include hge hlt in
theorem picked_at : val_main_v52 x2 x3 r0 e0 (ix2 b s) = val_main_v40 x2 r0 e0 (ix3 b s ⟨(x3 (ix2 b s)).toNat, (cmp_ge hge hlt).1⟩) := by
  rw [val_main_v52_apply]
  have e : idx_main_v52 (ix2 b s) = ix3 b s 0 := by
    have := b.isLt; have := s.isLt
    funext a; apply Fin.ext
    match a with
    | ⟨0, _⟩ => show (b.val * 256 + s.val) / 256 = b.val; omega
    | ⟨1, _⟩ => show (b.val * 256 + s.val) / 1 % 256 = s.val; omega
    | ⟨2, _⟩ => rfl
  rw [e, val_main_v51_apply, inside_at x3 b s hge hlt]
  show val_main_call3_v13 x2 x3 r0 e0 (ix3 b s 0) = _
  unfold val_main_call3_v13
  rw [gather_pt]
  refine congrArg (fun v : Fin 3968 => val_main_v40 x2 r0 e0 (ix3 b s v)) (Fin.ext ?_)
  show min (val_main_call3_v5 x3 (ix4 b s 0 0)).toInt.toNat 3967 = _
  rw [label_at x3 b s hge hlt (ix4 b s 0 0) rfl rfl]
  obtain ⟨h1, -, -, h2⟩ := cmp_ge hge hlt
  show min (x3 (ix2 b s)).toInt.toNat 3967 = (x3 (ix2 b s)).toNat
  rw [h2]; omega

end Label

theorem loss_pt (b : Fin 2) (s : Fin 256) : val_main_v55 x2 x3 r0 e0 (ix2 b s)
    = FloatOps.subf (FloatOps.subf (FloatOps.addf (FloatOps.hostUnary .log (val_main_v46 x2 r0 e0 (ix2 b s))) (val_main_v41 x2 r0 e0 (ix2 b s))) (val_main_v52 x2 x3 r0 e0 (ix2 b s))) (FloatOps.ofBits .f32 0x41049387#32) := by
  rw [val_main_v55_apply, val_main_v53_apply, val_main_v49_apply, val_main_v47_apply, val_main_v48_apply, val_main_v42_apply, val_main_v54_apply, val_main_cst_14_apply]
  congr 4
  have := b.isLt; have := s.isLt
  funext a; apply Fin.ext
  match a with
  | ⟨0, _⟩ => first | rfl | (show (b.val * 256 + s.val) / 256 = b.val; omega)
  | ⟨1, _⟩ => first | rfl | (show (b.val * 256 + s.val) / 1 % 256 = s.val; omega) | (show (b.val * 256 + s.val) % 256 = s.val; omega)

end Generic

section AtIdeal
variable (m : (ℓ : Loc nD τ sig) → Buf (Elt Ideal) ℓ)

theorem prod_at (c : Dev nD) (b : Fin 2) (s : Fin 256) (r : Fin 512) (hr : r.val = 256 * b.val + s.val) (v : Fin 3968) :
    (prod m c (ix2 r v) : EReal) = ∑ k : Fin 5120, (refCodes (m ((c : Thread nD τ).loc main_arg0)) (ix3 b s k) : EReal) * (m ((c : Thread nD τ).loc main_arg1) (ix2 v k) : EReal) := by
  rw [prod_eq, prodPay_pt, shapeCast_self]
  refine (Ideal.matmul_transposedRhs_apply _ _ _ _ _ _).trans ?_
  rw [show (constant (F := Ideal) S512x3968 .f32 0x00000000#32 (ix2 r v) : EReal) = 0 from Ideal.ofBits_zero_f32, zero_add]
  exact Finset.sum_congr rfl fun k _ => congrArg₂ (fun x y : EReal => x * y) (pblock_0 m c b s r hr k) (pblock_1 m c v k)

variable (x2 : (⟨S3968x1, .f32⟩ : BufTy).Contents (Elt Ideal)) (x3 : (⟨S2x256, .i32⟩ : BufTy).Contents (Elt Ideal))
  (r0 : (⟨S512x3968, .f32⟩ : BufTy).Contents (Elt Ideal)) (e0 : (⟨S2x256x1, .f32⟩ : BufTy).Contents (Elt Ideal))

/-- Token `(b, s)`'s logits. -/
def logit (b : Fin 2) (s : Fin 256) (v : Fin 3968) : EReal := val_main_v40 x2 r0 e0 (ix3 b s v)

theorem max_at (b : Fin 2) (s : Fin 256) : (val_main_v41 x2 r0 e0 (ix2 b s) : EReal) = (Finset.univ : Finset (Fin 3968)).sup (logit x2 r0 e0 b s) := by
  unfold val_main_v41
  refine (hmax (val_main_v40 x2 r0 e0) _ (show S2x256x3968.Reduces [2] S2x256 by decide) h_S_ (ix2 b s)).trans ?_
  refine Finset.sup_congr rfl fun v _ => ?_
  unfold logit
  congr 1
  funext a; apply Fin.ext
  match a with
  | ⟨0, _⟩ => rfl
  | ⟨1, _⟩ => rfl
  | ⟨2, _⟩ => rfl

theorem hExp (x : Ideal .f32) : (FloatOps.hostUnary .exp x : Ideal .f32) = Ideal.exp x := rfl
theorem hLog (x : Ideal .f32) : (FloatOps.hostUnary .log x : Ideal .f32) = Ideal.log x := rfl
theorem iSubf (x y : Ideal .f32) : (FloatOps.subf x y : EReal) = (x : EReal) - y := rfl
theorem iAddf (x y : Ideal .f32) : (FloatOps.addf x y : EReal) = (x : EReal) + y := rfl

theorem sum_at (b : Fin 2) (s : Fin 256) : (val_main_v46 x2 r0 e0 (ix2 b s) : EReal)
    = ∑ v : Fin 3968, Ideal.exp (logit x2 r0 e0 b s v - (Finset.univ : Finset (Fin 3968)).sup (logit x2 r0 e0 b s)) := by
  rw [val_main_v46_apply, val_main_cst_13_apply, Ideal.ofBits_def, Ideal.ofBits_zero_f32, zero_add]
  refine Finset.sum_congr rfl fun v _ => ?_
  have e : idx_main_v46 (ix2 b s) v = ix3 b s v := by
    funext a; apply Fin.ext
    match a with
    | ⟨0, _⟩ => rfl
    | ⟨1, _⟩ => rfl
    | ⟨2, _⟩ => rfl
  rw [e, sumExp_pt, hExp, iSubf, max_at]
  rfl

theorem loss_at (b : Fin 2) (s : Fin 256) (hge : IntOp.cmpi .sge (x3 (ix2 b s)) 0#32 = 1#1) (hlt : IntOp.cmpi .slt (x3 (ix2 b s)) 3968#32 = 1#1) :
    (val_main_v55 x2 x3 r0 e0 (ix2 b s) : EReal)
      = ((Ideal.log (∑ v : Fin 3968, Ideal.exp (logit x2 r0 e0 b s v - (Finset.univ : Finset (Fin 3968)).sup (logit x2 r0 e0 b s)))
          + (Finset.univ : Finset (Fin 3968)).sup (logit x2 r0 e0 b s))
          - logit x2 r0 e0 b s ⟨(x3 (ix2 b s)).toNat, (cmp_ge hge hlt).1⟩) - Ideal.ofBits .f32 0x41049387#32 := by
  rw [loss_pt, iSubf, iSubf, iAddf, hLog, sum_at, max_at, picked_at x2 x3 r0 e0 b s hge hlt, Ideal.ofBits_def]
  rfl

end AtIdeal

end Cert.ReferenceIdeal.Hand
-- ==== Proof.Equal.lean ====
module

public import proofs.«01_k».proof.Proof.KernelTokens
public import proofs.«01_k».proof.Proof.KernelLoss
public import proofs.«01_k».proof.Proof.RefLoss

/-! The kernel's results are the reference's, on arguments in range. -/

@[expose] public section

noncomputable section

namespace Cert.Equal

open Idealize.ShloMosaic Idealize.ShloMosaic.TcCoe Idealize.ShloMosaic.ValueIdx Idealize.SL.Sem
open Cert.Scale

/-- The arguments are in range: activations of finite size, labels in the vocabulary. -/
def InRange (x0 : FVec Ideal ⟨3, ![2, 256, 5120]⟩ .bf16) (x3 : IVec ⟨2, ![2, 256]⟩ 32) : Prop :=
  (∀ (b : Fin 2) (s : Fin 256) (k : Fin 5120), max (x0 (ix3 b s k) : EReal) (-(x0 (ix3 b s k))) ≤ Ideal.ofBits .f32 0x7F7F0000#32)
    ∧ ∀ (b : Fin 2) (s : Fin 256), IntOp.cmpi .sge (x3 (ix2 b s)) 0#32 = 1#1 ∧ IntOp.cmpi .slt (x3 (ix2 b s)) 3968#32 = 1#1

section
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

abbrev k0 : FVec Ideal ⟨3, ![2, 256, 5120]⟩ .bf16 := m ((c.tc : Thread Cert.KernelIdeal.nD Cert.KernelIdeal.τ).loc Cert.KernelIdeal.main_arg0)
abbrev k1 : FVec Ideal ⟨2, ![3968, 5120]⟩ .fp8e4m3 := m ((c.tc : Thread Cert.KernelIdeal.nD Cert.KernelIdeal.τ).loc Cert.KernelIdeal.main_arg1)
abbrev k2 : FVec Ideal ⟨2, ![3968, 1]⟩ .f32 := m ((c.tc : Thread Cert.KernelIdeal.nD Cert.KernelIdeal.τ).loc Cert.KernelIdeal.main_arg2)
abbrev k3 : IVec ⟨2, ![2, 256]⟩ 32 := m ((c.tc : Thread Cert.KernelIdeal.nD Cert.KernelIdeal.τ).loc Cert.KernelIdeal.main_arg3)
abbrev r0 : FVec Ideal ⟨3, ![2, 256, 5120]⟩ .bf16 := m' ((c.tc : Thread Cert.ReferenceIdeal.nD Cert.ReferenceIdeal.τ).loc Cert.ReferenceIdeal.main_arg0)
abbrev r1 : FVec Ideal ⟨2, ![3968, 5120]⟩ .fp8e4m3 := m' ((c.tc : Thread Cert.ReferenceIdeal.nD Cert.ReferenceIdeal.τ).loc Cert.ReferenceIdeal.main_arg1)
abbrev r2 : FVec Ideal ⟨2, ![3968, 1]⟩ .f32 := m' ((c.tc : Thread Cert.ReferenceIdeal.nD Cert.ReferenceIdeal.τ).loc Cert.ReferenceIdeal.main_arg2)
abbrev r3 : IVec ⟨2, ![2, 256]⟩ 32 := m' ((c.tc : Thread Cert.ReferenceIdeal.nD Cert.ReferenceIdeal.τ).loc Cert.ReferenceIdeal.main_arg3)

variable (hx : InRange (k0 m c) (k3 m c)) (e0 : r0 m' c = k0 m c) (e1 : r1 m' c = k1 m c) (e2 : r2 m' c = k2 m c) (e3 : r3 m' c = k3 m c)

/-- The row of token `(b, s)` among the 512. -/
def tok (b : Fin 2) (s : Fin 256) : Fin 512 := ⟨256 * b.val + s.val, by have := b.isLt; have := s.isLt; omega⟩

include hx in
theorem level (b : Fin 2) (s : Fin 256) : ∃ n, Level (quo fun k : Fin 5120 => (k0 m c (ix3 b s k) : EReal)) n
    ∧ 0 ≤ quo (fun k : Fin 5120 => (k0 m c (ix3 b s k) : EReal)) ∧ quo (fun k : Fin 5120 => (k0 m c (ix3 b s k) : EReal)) ≠ ⊤ :=
  quo_level (fun k : Fin 5120 => (k0 m c (ix3 b s k) : EReal)) (hx.1 b s)

include hx e0 in
theorem scale_tok (b : Fin 2) (s : Fin 256) (z : Fin 1) :
    (Cert.KernelIdeal.Hand.scalesOf m c (ix2 0 (tok b s)) : EReal) = Cert.ReferenceIdeal.Hand.refScale (F := Ideal) (r0 m' c) (ix3 b s z) := by
  obtain ⟨n, hl, h0, h1⟩ := level m c hx b s
  refine (Cert.KernelIdeal.Hand.scales_row _ (tok b s) _ (fun k => Cert.KernelIdeal.Hand.block_0 m c _ b s (tok b s) rfl k) n hl h0 h1).trans ?_
  rw [e0]
  exact (Cert.ReferenceIdeal.Hand.refScale_at (k0 m c) b s n hl z).symm

include hx e0 in
theorem code_tok (b : Fin 2) (s : Fin 256) (k : Fin 5120) :
    (Cert.KernelIdeal.Hand.codesOf m c (ix2 (tok b s) k) : EReal) = Cert.ReferenceIdeal.Hand.refCodes (F := Ideal) (r0 m' c) (ix3 b s k) := by
  obtain ⟨n, hl, h0, h1⟩ := level m c hx b s
  refine (Cert.KernelIdeal.Hand.codes_row _ (tok b s) _ (fun k => Cert.KernelIdeal.Hand.block_0 m c _ b s (tok b s) rfl k) n hl h0 h1 k).trans ?_
  rw [e0]
  exact (Cert.ReferenceIdeal.Hand.refCodes_at (k0 m c) b s n hl k).symm

include hx e0 in
theorem scales_eq : shapeCast Cert.KernelIdeal.S2x256x1 (Cert.KernelIdeal.Hand.scalesOf m c) Cert.KernelIdeal.Gen.facts.shapeCasts_S1x512_S2x256x1
    = Cert.ReferenceIdeal.Hand.refScale (F := Ideal) (r0 m' c) := by
  have key : ∀ (b : Fin 2) (s : Fin 256) (z : Fin 1), shapeCast Cert.KernelIdeal.S2x256x1 (Cert.KernelIdeal.Hand.scalesOf m c)
      Cert.KernelIdeal.Gen.facts.shapeCasts_S1x512_S2x256x1 (ix3 b s z) = Cert.ReferenceIdeal.Hand.refScale (F := Ideal) (r0 m' c) (ix3 b s z) := by
    intro b s z
    refine (shapeCast_apply _ _ _ (ix2 0 (tok b s)) ?_).trans (scale_tok m m' c hx e0 b s z)
    rw [Shape.rowMajor_val_three, Shape.rowMajor_val_two]
    have h2 := z.isLt
    show 0 * 512 + (256 * b.val + s.val) = (b.val * 256 + s.val) * 1 + z.val
    omega
  funext i
  rw [eq_ix3 i]
  exact key _ _ _

include hx e0 in
theorem codes_eq : shapeCast Cert.KernelIdeal.S2x256x5120 (Cert.KernelIdeal.Hand.codesOf m c) Cert.KernelIdeal.Gen.facts.shapeCasts_S512x5120_S2x256x5120
    = Cert.ReferenceIdeal.Hand.refCodes (F := Ideal) (r0 m' c) := by
  have key : ∀ (b : Fin 2) (s : Fin 256) (k : Fin 5120), shapeCast Cert.KernelIdeal.S2x256x5120 (Cert.KernelIdeal.Hand.codesOf m c)
      Cert.KernelIdeal.Gen.facts.shapeCasts_S512x5120_S2x256x5120 (ix3 b s k) = Cert.ReferenceIdeal.Hand.refCodes (F := Ideal) (r0 m' c) (ix3 b s k) := by
    intro b s k
    refine (shapeCast_apply _ _ _ (ix2 (tok b s) k) ?_).trans (code_tok m m' c hx e0 b s k)
    rw [Shape.rowMajor_val_three, Shape.rowMajor_val_two]
    show (256 * b.val + s.val) * 5120 + k.val = (b.val * 256 + s.val) * 5120 + k.val
    omega
  funext i
  rw [eq_ix3 i]
  exact key _ _ _

include hx e0 e1 e2 in
theorem logit_eq (b : Fin 2) (s : Fin 256) (v : Fin 3968) : Cert.KernelIdeal.Hand.klogit m c (tok b s) v
    = Cert.ReferenceIdeal.Hand.logit (r2 m' c) (Cert.ReferenceIdeal.Hand.prod m' c) (Cert.ReferenceIdeal.Hand.refScale (F := Ideal) (r0 m' c)) b s v := by
  unfold Cert.ReferenceIdeal.Hand.logit Cert.KernelIdeal.Hand.klogit Cert.KernelIdeal.Hand.logitOf
  rw [Cert.ReferenceIdeal.Hand.logit_pt _ _ _ b s (tok b s) rfl v]
  refine congrArg₂ (fun x y : EReal => x * y) (congrArg₂ (fun x y : EReal => x * y) ?_ (scale_tok m m' c hx e0 b s 0)) (congrFun e2.symm (ix2 v 0))
  refine Eq.trans ?_ (Cert.ReferenceIdeal.Hand.prod_at m' c b s (tok b s) rfl v).symm
  refine Finset.sum_congr rfl fun k _ => (mul_comm _ _).trans ?_
  exact congrArg₂ (fun x y : EReal => x * y) (code_tok m m' c hx e0 b s k) (congrFun e1.symm (ix2 v k))

include hx e0 e1 e2 e3 in
theorem loss_eq : shapeCast Cert.KernelIdeal.S2x256 (Cert.KernelIdeal.Hand.lossOf m c 4) Cert.KernelIdeal.Gen.facts.shapeCasts_S1x512_S2x256
    = Cert.ReferenceIdeal.Hand.refLoss m' c := by
  have key : ∀ (b : Fin 2) (s : Fin 256), shapeCast Cert.KernelIdeal.S2x256 (Cert.KernelIdeal.Hand.lossOf m c 4)
      Cert.KernelIdeal.Gen.facts.shapeCasts_S1x512_S2x256 (ix2 b s) = Cert.ReferenceIdeal.Hand.refLoss m' c (ix2 b s) := by
    intro b s
    obtain ⟨hge, hlt⟩ := hx.2 b s
    have hge' := hge; have hlt' := hlt
    rw [← e3] at hge' hlt'
    refine (shapeCast_apply _ _ _ (ix2 0 (tok b s)) ?_).trans ?_
    · rw [Shape.rowMajor_val_two, Shape.rowMajor_val_two]
      show 0 * 512 + (256 * b.val + s.val) = b.val * 256 + s.val
      omega
    refine (Cert.KernelIdeal.Hand.loss_at m c (tok b s) (k3 m c (ix2 b s)) (fun t => Cert.KernelIdeal.Hand.block_3 m c t b s (tok b s) rfl 0)
      (Cert.ReferenceIdeal.Hand.cmp_ge hge hlt).1).trans ?_
    refine Eq.trans ?_ (Cert.ReferenceIdeal.Hand.loss_at (r2 m' c) (r3 m' c) (Cert.ReferenceIdeal.Hand.prod m' c) (Cert.ReferenceIdeal.Hand.refScale (F := Ideal) (r0 m' c)) b s hge' hlt').symm
    rw [show Cert.KernelIdeal.Hand.klogit m c (tok b s)
      = Cert.ReferenceIdeal.Hand.logit (r2 m' c) (Cert.ReferenceIdeal.Hand.prod m' c) (Cert.ReferenceIdeal.Hand.refScale (F := Ideal) (r0 m' c)) b s from
        funext fun v => logit_eq m m' c hx e0 e1 e2 b s v]
    congr 3
    exact Fin.ext (congrArg BitVec.toNat (congrFun e3.symm (ix2 b s)))
  funext i
  rw [eq_ix2 i]
  exact key _ _

end

end Cert.Equal
-- ==== Proof.KernelRuns.lean ====
module

public import proofs.«01_k».proof.Proof.Gen.Kernel.Frame
public import proofs.«01_k».proof.Proof.Gen.Kernel.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WholeRead
public import Idealize.ShloMosaic.Lib.Writes
public import Idealize.ShloMosaic.Lib.ValueIdx

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! ## What one grid point computes -/

/-- The codes of one chunk of 64 rows. -/
def chunkCodes (x : Vec F S64x5120 .bf16) : FVec F S64x5120 .fp8e4m3 := k0_pay9 (k0_pay8 x)

/-- The scales of one chunk of 64 rows, along the lanes. -/
def chunkScales (x : Vec F S64x5120 .bf16) : FVec F S1x64 .f32 := k0_pay10 (k0_pay7 x)

/-- Rows `64 r` to `64 r + 63` of the activations. -/
def chunk (x : Vec F S512x5120 .bf16) (r : Fin 8) : Vec F S64x5120 .bf16 :=
  fun y => x (ix2 (n0 := 512) (n1 := 5120) ⟨64 * r.val + (y 0).val, by have := idx2_lt0 (n0 := 64) (n1 := 5120) y; omega⟩ (y 1))

/-- All the codes: each row is coded in its chunk. -/
def codes (x : Vec F S512x5120 .bf16) : FVec F S512x5120 .fp8e4m3 :=
  fun y => chunkCodes (chunk x ⟨(y 0).val / 64, by have := idx2_lt0 (n0 := 512) (n1 := 5120) y; omega⟩)
    (ix2 (n0 := 64) (n1 := 5120) ⟨(y 0).val % 64, by omega⟩ (y 1))

/-- All the scales: each row's is computed in its chunk. -/
def scales (x : Vec F S512x5120 .bf16) : FVec F S1x512 .f32 :=
  fun y => chunkScales (chunk x ⟨(y 1).val / 64, by have := idx2_lt1 (n0 := 1) (n1 := 512) y; omega⟩)
    (ix2 (n0 := 1) (n1 := 64) 0 ⟨(y 1).val % 64, by omega⟩)

/-- The running maximum after a point. -/
def maxNext (x1 : Vec F S992x5120 .fp8e4m3) (C : Vec F S512x5120 .fp8e4m3) (X : Vec F S1x512 .f32) (x2 : Vec F S992x1 .f32) (a : Vec F S1x512 .f32) :
    FVec F S1x512 .f32 := k0_pay1 (k0_pay62 x1 C X x2 a)

/-- The running sum after a point. -/
def sumNext (x1 : Vec F S992x5120 .fp8e4m3) (C : Vec F S512x5120 .fp8e4m3) (X : Vec F S1x512 .f32) (x2 : Vec F S992x1 .f32) (a b : Vec F S1x512 .f32) :
    FVec F S1x512 .f32 := k0_pay63 x1 C X x2 a b

/-- The label's logit so far, after a point. -/
def labNext (i : grid0.Coords) (x1 : Vec F S992x5120 .fp8e4m3) (C : Vec F S512x5120 .fp8e4m3) (X : Vec F S1x512 .f32) (x2 : Vec F S992x1 .f32) (x3 : Vec F S1x512 .i32)
    (d : Vec F S1x512 .f32) : FVec F S1x512 .f32 := k0_pay2 (k0_pay60 x1 C X x2) (k0_pay61 i) d x3

/-- A load of 64 rows of the activations is their chunk. -/
theorem load_chunk (r : Fin 8) {arg1 : Memref sig .tc .vmem S512x5120 .bf16} (harg1 : arg1.IsWhole) (x0 : Vec F S512x5120 .bf16) (off : Fin 2 → ℕ)
    (inb : ∀ a, off a + S64x5120.size a ≤ S512x5120.size a) (hoff : off = ![64 * r.val, 0]) :
    View.readAt (Elt F) arg1.view (Rect.unit (s := S512x5120) off S64x5120.size inb).toLoadRect (harg1.unread x0) = chunk x0 r := by
  subst hoff
  funext z
  rw [Memref.IsWhole.readAt_unread]
  refine congrArg x0 ?_
  rw [eq_ix2 (n0 := 512) (n1 := 5120) ((Rect.unit (s := S512x5120) ![64 * r.val, 0] S64x5120.size inb).toLoadRect.idx z)]
  congr 1
  · apply Fin.ext; show 64 * r.val + 1 * (z 0).val = 64 * r.val + (z 0).val; omega
  · apply Fin.ext; show 0 + 1 * (z 1).val = (z 1).val; omega

/-- A chunk's codes are its rows of all the codes. -/
theorem codes_piece (r : Fin 8) (x0 : Vec F S512x5120 .bf16) (off : Fin 2 → ℕ)
    (inb : ∀ a, off a + S64x5120.size a ≤ S512x5120.size a) (hoff : off = ![64 * r.val, 0]) (p : FVec F S64x5120 .fp8e4m3) (hp : p = chunkCodes (chunk x0 r))
    (z : (Rect.unit (s := S512x5120) off S64x5120.size inb).shape.Idx) :
    p z = codes x0 ((Rect.unit (s := S512x5120) off S64x5120.size inb).emb z) := by
  subst hoff hp
  have hz : (z 0).val < 64 := (z 0).isLt
  have h0 : (((Rect.unit (s := S512x5120) ![64 * r.val, 0] S64x5120.size inb).emb z) 0).val = 64 * r.val + (z 0).val := by
    show 64 * r.val + 1 * (z 0).val = _; omega
  have h1 : (((Rect.unit (s := S512x5120) ![64 * r.val, 0] S64x5120.size inb).emb z) 1).val = (z 1).val := by
    show 0 + 1 * (z 1).val = _; omega
  unfold codes
  have e1 : (⟨(((Rect.unit (s := S512x5120) ![64 * r.val, 0] S64x5120.size inb).emb z) 0).val / 64, by rw [h0]; omega⟩ : Fin 8) = r := by
    apply Fin.ext; show _ / 64 = _; rw [h0]; omega
  rw [e1]
  refine congrArg (chunkCodes (chunk x0 r)) ?_
  rw [eq_ix2 (n0 := 64) (n1 := 5120) z]
  congr 1
  · apply Fin.ext; show (z 0).val = _ % 64; rw [← eq_ix2 (n0 := 64) (n1 := 5120) z, h0]; omega
  · apply Fin.ext; show (z 1).val = _; rw [← eq_ix2 (n0 := 64) (n1 := 5120) z]; exact h1.symm

/-- A chunk's scales are its lanes of all the scales. -/
theorem scales_piece (r : Fin 8) (x0 : Vec F S512x5120 .bf16) (off : Fin 2 → ℕ)
    (inb : ∀ a, off a + S1x64.size a ≤ S1x512.size a) (hoff : off = ![0, 64 * r.val]) (p : FVec F S1x64 .f32) (hp : p = chunkScales (chunk x0 r))
    (z : (Rect.unit (s := S1x512) off S1x64.size inb).shape.Idx) :
    p z = scales x0 ((Rect.unit (s := S1x512) off S1x64.size inb).emb z) := by
  subst hoff hp
  have hz : (z 1).val < 64 := (z 1).isLt
  have hz0 : (z 0).val < 1 := (z 0).isLt
  have h1 : (((Rect.unit (s := S1x512) ![0, 64 * r.val] S1x64.size inb).emb z) 1).val = 64 * r.val + (z 1).val := by
    show 64 * r.val + 1 * (z 1).val = _; omega
  unfold scales
  have e1 : (⟨(((Rect.unit (s := S1x512) ![0, 64 * r.val] S1x64.size inb).emb z) 1).val / 64, by rw [h1]; omega⟩ : Fin 8) = r := by
    apply Fin.ext; show _ / 64 = _; rw [h1]; omega
  rw [e1]
  refine congrArg (chunkScales (chunk x0 r)) ?_
  rw [eq_ix2 (n0 := 1) (n1 := 64) z]
  congr 1
  · apply Fin.ext; show (z 0).val = 0; omega
  · apply Fin.ext; show (z 1).val = _ % 64; rw [← eq_ix2 (n0 := 1) (n1 := 64) z, h1]; omega

/-- Eight stores, each of one chunk's codes, leave all the codes. -/
theorem read_codes (v : View sig .tc .vmem S512x5120 .fp8e4m3) (f : v.ty.Contents (Elt F)) (x0 : Vec F S512x5120 .bf16) (p : Fin 8 → FVec F S64x5120 .fp8e4m3)
    (hp : ∀ r, p r = chunkCodes (chunk x0 r)) :
    v.read (Elt F) (v.writes (Elt F) f
        [⟨Rect.unit ![448, 0] S64x5120.size inb_S512x5120_S64x5120_448_0, p 7⟩, ⟨Rect.unit ![384, 0] S64x5120.size inb_S512x5120_S64x5120_384_0, p 6⟩,
          ⟨Rect.unit ![320, 0] S64x5120.size inb_S512x5120_S64x5120_320_0, p 5⟩, ⟨Rect.unit ![256, 0] S64x5120.size inb_S512x5120_S64x5120_256_0, p 4⟩,
          ⟨Rect.unit ![192, 0] S64x5120.size inb_S512x5120_S64x5120_192_0, p 3⟩, ⟨Rect.unit ![128, 0] S64x5120.size inb_S512x5120_S64x5120_128_0, p 2⟩,
          ⟨Rect.unit ![64, 0] S64x5120.size inb_S512x5120_S64x5120_64_0, p 1⟩, ⟨Rect.unit ![0, 0] S64x5120.size inb_S512x5120_S64x5120_0_0, p 0⟩]) = codes x0 := by
  funext y
  refine View.read_writes_apply_of_pieces v f (codes x0) _ ?_ y (View.cover_of_tiledL (s := S512x5120) _ ![64, 5120] (by sl_kernel_rfl) y)
  intro q hq
  simp only [List.mem_cons, List.not_mem_nil, or_false] at hq
  rcases hq with rfl | rfl | rfl | rfl | rfl | rfl | rfl | rfl
  · exact codes_piece 7 x0 _ inb_S512x5120_S64x5120_448_0 rfl _ (hp 7)
  · exact codes_piece 6 x0 _ inb_S512x5120_S64x5120_384_0 rfl _ (hp 6)
  · exact codes_piece 5 x0 _ inb_S512x5120_S64x5120_320_0 rfl _ (hp 5)
  · exact codes_piece 4 x0 _ inb_S512x5120_S64x5120_256_0 rfl _ (hp 4)
  · exact codes_piece 3 x0 _ inb_S512x5120_S64x5120_192_0 rfl _ (hp 3)
  · exact codes_piece 2 x0 _ inb_S512x5120_S64x5120_128_0 rfl _ (hp 2)
  · exact codes_piece 1 x0 _ inb_S512x5120_S64x5120_64_0 rfl _ (hp 1)
  · exact codes_piece 0 x0 _ inb_S512x5120_S64x5120_0_0 rfl _ (hp 0)

/-- Eight stores, each of one chunk's scales, leave all the scales. -/
theorem read_scales (v : View sig .tc .vmem S1x512 .f32) (f : v.ty.Contents (Elt F)) (x0 : Vec F S512x5120 .bf16) (p : Fin 8 → FVec F S1x64 .f32)
    (hp : ∀ r, p r = chunkScales (chunk x0 r)) :
    v.read (Elt F) (v.writes (Elt F) f
        [⟨Rect.unit ![0, 448] S1x64.size inb_S1x512_S1x64_0_448, p 7⟩, ⟨Rect.unit ![0, 384] S1x64.size inb_S1x512_S1x64_0_384, p 6⟩,
          ⟨Rect.unit ![0, 320] S1x64.size inb_S1x512_S1x64_0_320, p 5⟩, ⟨Rect.unit ![0, 256] S1x64.size inb_S1x512_S1x64_0_256, p 4⟩,
          ⟨Rect.unit ![0, 192] S1x64.size inb_S1x512_S1x64_0_192, p 3⟩, ⟨Rect.unit ![0, 128] S1x64.size inb_S1x512_S1x64_0_128, p 2⟩,
          ⟨Rect.unit ![0, 64] S1x64.size inb_S1x512_S1x64_0_64, p 1⟩, ⟨Rect.unit ![0, 0] S1x64.size inb_S1x512_S1x64_0_0, p 0⟩]) = scales x0 := by
  funext y
  refine View.read_writes_apply_of_pieces v f (scales x0) _ ?_ y (View.cover_of_tiledL (s := S1x512) _ ![1, 64] (by sl_kernel_rfl) y)
  intro q hq
  simp only [List.mem_cons, List.not_mem_nil, or_false] at hq
  rcases hq with rfl | rfl | rfl | rfl | rfl | rfl | rfl | rfl
  · exact scales_piece 7 x0 _ inb_S1x512_S1x64_0_448 rfl _ (hp 7)
  · exact scales_piece 6 x0 _ inb_S1x512_S1x64_0_384 rfl _ (hp 6)
  · exact scales_piece 5 x0 _ inb_S1x512_S1x64_0_320 rfl _ (hp 5)
  · exact scales_piece 4 x0 _ inb_S1x512_S1x64_0_256 rfl _ (hp 4)
  · exact scales_piece 3 x0 _ inb_S1x512_S1x64_0_192 rfl _ (hp 3)
  · exact scales_piece 2 x0 _ inb_S1x512_S1x64_0_128 rfl _ (hp 2)
  · exact scales_piece 1 x0 _ inb_S1x512_S1x64_0_64 rfl _ (hp 1)
  · exact scales_piece 0 x0 _ inb_S1x512_S1x64_0_0 rfl _ (hp 0)

section
variable (c : Dev nD) (i : grid0.Coords) (arg1 : Memref sig .tc .vmem S512x5120 .bf16) (harg1 : arg1.IsWhole) (arg2 : Memref sig .tc .vmem S992x5120 .fp8e4m3) (harg2 : arg2.IsWhole) (arg3 : Memref sig .tc .vmem S992x1 .f32) (harg3 : arg3.IsWhole) (arg4 : Memref sig .tc .vmem S1x512 .i32) (harg4 : arg4.IsWhole) (arg5 : Memref sig .tc .vmem S1x512 .f32) (harg5 : arg5.IsWhole) (arg6 : Memref sig .tc .vmem S512x5120 .fp8e4m3) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole)
  (x0 : Vec F S512x5120 .bf16) (x1 : Vec F S992x5120 .fp8e4m3) (x2 : Vec F S992x1 .f32) (x3 : Vec F S1x512 .i32) (x4 : Vec F S1x512 .f32) (C : Vec F S512x5120 .fp8e4m3) (X a b d : Vec F S1x512 .f32)

include harg1 harg2 harg3 harg4 harg5 harg6 harg7 harg8 harg9 harg10

set_option maxHeartbeats 1600000 in
/-- A point that is neither the first nor the last. -/
theorem run_mid (hc0 : ¬k0_cond1 i = 1#1) (hc1 : ¬k0_cond2 i = 1#1) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare C ∗ owns (c : Thread nD τ) arg7 fullShare X ∗ owns (c : Thread nD τ) arg8 fullShare a ∗ owns (c : Thread nD τ) arg9 fullShare b ∗ owns (c : Thread nD τ) arg10 fullShare d
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare C ∗ owns (c : Thread nD τ) arg7 fullShare X ∗ owns (c : Thread nD τ) arg8 fullShare (maxNext x1 C X x2 a) ∗ owns (c : Thread nD τ) arg9 fullShare (sumNext x1 C X x2 a b) ∗ owns (c : Thread nD τ) arg10 fullShare (labNext i x1 C X x2 x3 d)) -∗ K ⟨⟩))
      ⊢ wp frame (wpE (defs₀ (F := F)) Variants.none c none) E (cc0_fp8_linear_ce i arg1 harg1 arg2 harg2 arg3 harg3 arg4 harg4 arg5 harg5 arg6 harg6 arg7 harg7 arg8 harg8 arg9 harg9 arg10 harg10) K := by
  simp only [cc0_fp8_linear_ce_eq_skeleton]; unfold cc0_fp8_linear_ce_skel
  simp only [k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1; obtain rfl := harg10.eq_unread hfs2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [HS0]
  · iexists _; isplitr; swap; · iexact HS0
    ipureintro; rw [View.read_writes_full]; delta run_mid.sl.r_1; (repeat rw [View.readAt_full]); (repeat rw [Memref.IsWhole.read_unread]); rfl
  isplitl [HS1]
  · iexists _; isplitr; swap; · iexact HS1
    ipureintro; rw [View.read_writes_full]; (repeat rw [View.readAt_full]); (repeat rw [Memref.IsWhole.read_unread]); rfl
  iexists _; isplitr; swap; · iexact HS2
  ipureintro; rw [View.read_writes_full]; delta run_mid.sl.r; (repeat rw [View.readAt_full]); (repeat rw [Memref.IsWhole.read_unread]); rfl

set_option maxHeartbeats 1600000 in
/-- The last point. -/
theorem run_last (hc0 : ¬k0_cond1 i = 1#1) (hc1 : k0_cond2 i = 1#1) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare C ∗ owns (c : Thread nD τ) arg7 fullShare X ∗ owns (c : Thread nD τ) arg8 fullShare a ∗ owns (c : Thread nD τ) arg9 fullShare b ∗ owns (c : Thread nD τ) arg10 fullShare d
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay3 (maxNext x1 C X x2 a) (sumNext x1 C X x2 a b) (labNext i x1 C X x2 x3 d)) ∗ owns (c : Thread nD τ) arg6 fullShare C ∗ owns (c : Thread nD τ) arg7 fullShare X ∗ owns (c : Thread nD τ) arg8 fullShare (maxNext x1 C X x2 a) ∗ owns (c : Thread nD τ) arg9 fullShare (sumNext x1 C X x2 a b) ∗ owns (c : Thread nD τ) arg10 fullShare (labNext i x1 C X x2 x3 d)) -∗ K ⟨⟩))
      ⊢ wp frame (wpE (defs₀ (F := F)) Variants.none c none) E (cc0_fp8_linear_ce i arg1 harg1 arg2 harg2 arg3 harg3 arg4 harg4 arg5 harg5 arg6 harg6 arg7 harg7 arg8 harg8 arg9 harg9 arg10 harg10) K := by
  simp only [cc0_fp8_linear_ce_eq_skeleton]; unfold cc0_fp8_linear_ce_skel
  simp only [k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1; obtain rfl := harg10.eq_unread hfs2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro; delta run_last.sl.v54 run_last.sl.v55 run_last.sl.v58 run_last.sl.HS0_1 run_last.sl.HS1_1 run_last.sl.HS2_1; (try delta run_last.sl.r); (try delta run_last.sl.r_1)
    rw [View.read_writes_full]; (repeat rw [View.readCov_full]); (repeat rw [View.readAt_full]); (repeat rw [Memref.IsWhole.read_unread]); rfl
  isplitl [H5]
  · iexists _; isplitr; · ipureintro; exact harg6.read_unread _
    iexact H5
  isplitl [H6]
  · iexists _; isplitr; · ipureintro; exact harg7.read_unread _
    iexact H6
  isplitl [HS0]
  · iexists _; isplitr; swap; · iexact HS0
    ipureintro; delta run_last.sl.HS0_1; (try delta run_last.sl.r); (try delta run_last.sl.r_1); rw [View.read_writes_full]; (repeat rw [View.readAt_full]); (repeat rw [Memref.IsWhole.read_unread]); rfl
  isplitl [HS1]
  · iexists _; isplitr; swap; · iexact HS1
    ipureintro; delta run_last.sl.HS1_1; (try delta run_last.sl.r); (try delta run_last.sl.r_1); rw [View.read_writes_full]; (repeat rw [View.readAt_full]); (repeat rw [Memref.IsWhole.read_unread]); rfl
  iexists _; isplitr; swap; · iexact HS2
  ipureintro; delta run_last.sl.HS2_1; (try delta run_last.sl.r); (try delta run_last.sl.r_1); rw [View.read_writes_full]; (repeat rw [View.readAt_full]); (repeat rw [Memref.IsWhole.read_unread]); rfl

set_option maxHeartbeats 1600000 in
/-- The first point: the codes and the scales are computed, and the running values start. -/
theorem run_first (hc0 : k0_cond1 i = 1#1) (hc1 : ¬k0_cond2 i = 1#1) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare C ∗ owns (c : Thread nD τ) arg7 fullShare X ∗ owns (c : Thread nD τ) arg8 fullShare a ∗ owns (c : Thread nD τ) arg9 fullShare b ∗ owns (c : Thread nD τ) arg10 fullShare d
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (codes x0) ∗ owns (c : Thread nD τ) arg7 fullShare (scales x0) ∗ owns (c : Thread nD τ) arg8 fullShare (maxNext x1 (codes x0) (scales x0) x2 k0_pay57) ∗ owns (c : Thread nD τ) arg9 fullShare (sumNext x1 (codes x0) (scales x0) x2 k0_pay57 k0_pay58) ∗ owns (c : Thread nD τ) arg10 fullShare (labNext i x1 (codes x0) (scales x0) x2 x3 k0_pay59)) -∗ K ⟨⟩))
      ⊢ wp frame (wpE (defs₀ (F := F)) Variants.none c none) E (cc0_fp8_linear_ce i arg1 harg1 arg2 harg2 arg3 harg3 arg4 harg4 arg5 harg5 arg6 harg6 arg7 harg7 arg8 harg8 arg9 harg9 arg10 harg10) K := by
  simp only [cc0_fp8_linear_ce_eq_skeleton]; unfold cc0_fp8_linear_ce_skel
  simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1; obtain rfl := harg10.eq_unread hfs2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  have h5 : ∀ f, arg6.view.read (Elt F) (arg6.view.writes (Elt F) f (run_first.sl.H5_8 c arg1 harg1 x0)) = codes x0 := by
    intro f
    delta run_first.sl.H5_8
    refine read_codes arg6.view f x0 ![_, _, _, _, _, _, _, _] ?_
    intro r; fin_cases r
    · exact Eq.trans (by rfl) (congrArg chunkCodes (load_chunk 0 harg1 x0 ![0, 0] inb_S512x5120_S64x5120_0_0 rfl))
    · exact Eq.trans (by rfl) (congrArg chunkCodes (load_chunk 1 harg1 x0 ![64, 0] inb_S512x5120_S64x5120_64_0 rfl))
    · exact Eq.trans (by rfl) (congrArg chunkCodes (load_chunk 2 harg1 x0 ![128, 0] inb_S512x5120_S64x5120_128_0 rfl))
    · exact Eq.trans (by rfl) (congrArg chunkCodes (load_chunk 3 harg1 x0 ![192, 0] inb_S512x5120_S64x5120_192_0 rfl))
    · exact Eq.trans (by rfl) (congrArg chunkCodes (load_chunk 4 harg1 x0 ![256, 0] inb_S512x5120_S64x5120_256_0 rfl))
    · exact Eq.trans (by rfl) (congrArg chunkCodes (load_chunk 5 harg1 x0 ![320, 0] inb_S512x5120_S64x5120_320_0 rfl))
    · exact Eq.trans (by rfl) (congrArg chunkCodes (load_chunk 6 harg1 x0 ![384, 0] inb_S512x5120_S64x5120_384_0 rfl))
    · exact Eq.trans (by rfl) (congrArg chunkCodes (load_chunk 7 harg1 x0 ![448, 0] inb_S512x5120_S64x5120_448_0 rfl))
  have h6 : ∀ f, arg7.view.read (Elt F) (arg7.view.writes (Elt F) f (run_first.sl.H6_8 c arg1 harg1 x0)) = scales x0 := by
    intro f
    delta run_first.sl.H6_8
    refine read_scales arg7.view f x0 ![_, _, _, _, _, _, _, _] ?_
    intro r; fin_cases r
    · exact Eq.trans (by rfl) (congrArg chunkScales (load_chunk 0 harg1 x0 ![0, 0] inb_S512x5120_S64x5120_0_0 rfl))
    · exact Eq.trans (by rfl) (congrArg chunkScales (load_chunk 1 harg1 x0 ![64, 0] inb_S512x5120_S64x5120_64_0 rfl))
    · exact Eq.trans (by rfl) (congrArg chunkScales (load_chunk 2 harg1 x0 ![128, 0] inb_S512x5120_S64x5120_128_0 rfl))
    · exact Eq.trans (by rfl) (congrArg chunkScales (load_chunk 3 harg1 x0 ![192, 0] inb_S512x5120_S64x5120_192_0 rfl))
    · exact Eq.trans (by rfl) (congrArg chunkScales (load_chunk 4 harg1 x0 ![256, 0] inb_S512x5120_S64x5120_256_0 rfl))
    · exact Eq.trans (by rfl) (congrArg chunkScales (load_chunk 5 harg1 x0 ![320, 0] inb_S512x5120_S64x5120_320_0 rfl))
    · exact Eq.trans (by rfl) (congrArg chunkScales (load_chunk 6 harg1 x0 ![384, 0] inb_S512x5120_S64x5120_384_0 rfl))
    · exact Eq.trans (by rfl) (congrArg chunkScales (load_chunk 7 harg1 x0 ![448, 0] inb_S512x5120_S64x5120_448_0 rfl))
  have h4 : run_first.sl.v4 c arg1 harg1 arg6 x0 = codes x0 := by
    delta run_first.sl.v4
    exact (View.readAt_full _ _ _).trans (h5 _)
  have h7 : run_first.sl.v7 c arg1 harg1 arg7 x0 = scales x0 := by
    delta run_first.sl.v7
    exact (View.readAt_full _ _ _).trans (h6 _)
  isplitl [H5]
  · iexists _; isplitr; swap; · iexact H5
    ipureintro; exact h5 _
  isplitl [H6]
  · iexists _; isplitr; swap; · iexact H6
    ipureintro; exact h6 _
  isplitl [HS0]
  · iexists _; isplitr; swap; · iexact HS0
    ipureintro; rw [View.read_writes_full]; delta run_first.sl.r_21 run_first.sl.v18 run_first.sl.HS0_1; rw [h4, h7]; (repeat rw [View.readCov_full]); (repeat rw [View.readAt_full]); (repeat rw [Memref.IsWhole.read_unread]); rfl
  isplitl [HS1]
  · iexists _; isplitr; swap; · iexact HS1
    ipureintro; rw [View.read_writes_full]; delta run_first.sl.v18 run_first.sl.v27 run_first.sl.HS0_1 run_first.sl.HS1_1; rw [h4, h7]; (repeat rw [View.readCov_full]); (repeat rw [View.readAt_full]); (repeat rw [Memref.IsWhole.read_unread]); rfl
  iexists _; isplitr; swap; · iexact HS2
  ipureintro; rw [View.read_writes_full]; delta run_first.sl.r_20 run_first.sl.v38 run_first.sl.HS2_1; rw [h4, h7]; (repeat rw [View.readCov_full]); (repeat rw [View.readAt_full]); (repeat rw [Memref.IsWhole.read_unread]); rfl

end

end Cert.Kernel.Hand

end
-- ==== Proof.KernelFrame.lean ====
module

public import proofs.«01_k».proof.Proof.Gen.Kernel.Frame
public import proofs.«01_k».proof.Proof.KernelRuns
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WholeRead
public import Idealize.ShloMosaic.Lib.Writes
public import Idealize.ShloMosaic.Lib.ValueIdx
public import Idealize.ShloMosaic.Lib.Claim
public import Idealize.ShloMosaic.Lib.Pipeline.TableIdle

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points and the branches -/

theorem cond1_iff : ∀ t : Fin cfg0.N, k0_cond1 (grid0.coords t) = 1#1 ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [k0_cond1, e0]
    word_cmp
   : ∀ t : Fin grid0.N, k0_cond1 (grid0.coords t) = 1#1 ↔ t.val % 4 = 0)

theorem cond2_iff : ∀ t : Fin cfg0.N, k0_cond2 (grid0.coords t) = 1#1 ↔ t.val % 4 = 3 :=
  (fun t => by
    have ht : t.val < 4 := Nat.lt_of_lt_of_eq t.isLt N_0
    have e0 : (grid0.coords t 0).val = t.val / 1 % 4 := Pipeline.Grid.coords_val t 0 (by decide) rfl
    simp only [k0_cond2, e0]
    word_cmp
   : ∀ t : Fin grid0.N, k0_cond2 (grid0.coords t) = 1#1 ↔ t.val % 4 = 3)

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl

theorem idle_4 : ∀ t : Fin cfg0.N, ¬k0_cond2 (grid0.coords t) = 1#1 → cfg0.idle 4 (grid0.coords t) = true := by decide +kernel
theorem live_4 : ∀ t : Fin cfg0.N, k0_cond2 (grid0.coords t) = 1#1 → cfg0.idle 4 (grid0.coords t) = false := by decide +kernel
theorem keep_4 : ∀ t : Fin cfg0.N, ¬k0_cond2 (grid0.coords t) = 1#1 → (cfg0.win 4).flush t = false := by decide +kernel
theorem idle_5 : ∀ t : Fin cfg0.N, ¬k0_cond1 (grid0.coords t) = 1#1 → cfg0.idle 5 (grid0.coords t) = true := by decide +kernel
theorem live_5 : ∀ t : Fin cfg0.N, k0_cond1 (grid0.coords t) = 1#1 → cfg0.idle 5 (grid0.coords t) = false := by decide +kernel
theorem keep_5 : ∀ t : Fin cfg0.N, ¬k0_cond2 (grid0.coords t) = 1#1 → (cfg0.win 5).flush t = false := by decide +kernel
theorem back_5 : ∀ t : Fin cfg0.N, k0_cond2 (grid0.coords t) = 1#1 → (cfg0.win 5).flush t = true := by decide +kernel
theorem nofetch_5 : ∀ t : Fin cfg0.N, (cfg0.win 5).fetch t = false := by decide +kernel
theorem idle_6 : ∀ t : Fin cfg0.N, ¬k0_cond1 (grid0.coords t) = 1#1 → cfg0.idle 6 (grid0.coords t) = true := by decide +kernel
theorem live_6 : ∀ t : Fin cfg0.N, k0_cond1 (grid0.coords t) = 1#1 → cfg0.idle 6 (grid0.coords t) = false := by decide +kernel
theorem keep_6 : ∀ t : Fin cfg0.N, ¬k0_cond2 (grid0.coords t) = 1#1 → (cfg0.win 6).flush t = false := by decide +kernel
theorem back_6 : ∀ t : Fin cfg0.N, k0_cond2 (grid0.coords t) = 1#1 → (cfg0.win 6).flush t = true := by decide +kernel
theorem nofetch_6 : ∀ t : Fin cfg0.N, (cfg0.win 6).fetch t = false := by decide +kernel
abbrev ms_0 (t : Fin cfg0.N) : Memref sig .tc .vmem S512x5120 .bf16 := win0_0.stage (cfg0.slots t 0)
abbrev ms_1 (t : Fin cfg0.N) : Memref sig .tc .vmem S992x5120 .fp8e4m3 := win0_1.stage (cfg0.slots t 1)
abbrev ms_2 (t : Fin cfg0.N) : Memref sig .tc .vmem S992x1 .f32 := win0_2.stage (cfg0.slots t 2)
abbrev ms_3 (t : Fin cfg0.N) : Memref sig .tc .vmem S1x512 .i32 := win0_3.stage (cfg0.slots t 3)
abbrev ms_4 (t : Fin cfg0.N) : Memref sig .tc .vmem S1x512 .f32 := win0_4.stage (cfg0.slots t 4)
abbrev ms_5 (t : Fin cfg0.N) : Memref sig .tc .vmem S512x5120 .fp8e4m3 := win0_5.stage (cfg0.slots t 5)
abbrev ms_6 (t : Fin cfg0.N) : Memref sig .tc .vmem S1x512 .f32 := win0_6.stage (cfg0.slots t 6)
abbrev scM0 : Memref sig .tc .vmem S1x512 .f32 := Memref.whole cc0_scratch0
abbrev scM1 : Memref sig .tc .vmem S1x512 .f32 := Memref.whole cc0_scratch1
abbrev scM2 : Memref sig .tc .vmem S1x512 .f32 := Memref.whole cc0_scratch2

theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-! ## What the buffers hold after each point -/

/-- The first point. -/
def t0 : Fin cfg0.N := ⟨0, lt_of_lt_of_eq (by decide) (show cfg0.N = 4 from N_0).symm⟩

/-- The codes, computed at the first point. -/
def codesOf (c : Dev nD) : Vec F S512x5120 .fp8e4m3 := codes (iblk m c 0 t0)
/-- The scales, computed at the first point. -/
def scalesOf (c : Dev nD) : Vec F S1x512 .f32 := scales (iblk m c 0 t0)

/-- The running maximum, the running sum and the label's logit after the first `n` points. -/
def st (c : Dev nD) : ℕ → Vec F S1x512 .f32 × Vec F S1x512 .f32 × Vec F S1x512 .f32
  | 0 => (k0_pay57, k0_pay58, k0_pay59)
  | n + 1 =>
    if h : n < cfg0.N then
      (maxNext (iblk m c 1 ⟨n, h⟩) (codesOf m c) (scalesOf m c) (iblk m c 2 ⟨n, h⟩) (st c n).1,
        sumNext (iblk m c 1 ⟨n, h⟩) (codesOf m c) (scalesOf m c) (iblk m c 2 ⟨n, h⟩) (st c n).1 (st c n).2.1,
        labNext (grid0.coords ⟨n, h⟩) (iblk m c 1 ⟨n, h⟩) (codesOf m c) (scalesOf m c) (iblk m c 2 ⟨n, h⟩) (iblk m c 3 ⟨n, h⟩) (st c n).2.2)
    else st c n

theorem st_zero (c : Dev nD) : st m c 0 = (k0_pay57, k0_pay58, k0_pay59) := rfl

theorem st_succ (c : Dev nD) (t : Fin cfg0.N) : st m c (t.val + 1) =
      (maxNext (iblk m c 1 t) (codesOf m c) (scalesOf m c) (iblk m c 2 t) (st m c t.val).1,
        sumNext (iblk m c 1 t) (codesOf m c) (scalesOf m c) (iblk m c 2 t) (st m c t.val).1 (st m c t.val).2.1,
        labNext (grid0.coords t) (iblk m c 1 t) (codesOf m c) (scalesOf m c) (iblk m c 2 t) (iblk m c 3 t) (st m c t.val).2.2) :=
  dif_pos t.isLt

/-- The loss as it would be after the first `n` points. -/
def lossOf (c : Dev nD) (n : ℕ) : Vec F S1x512 .f32 := k0_pay3 (st m c n).1 (st m c n).2.1 (st m c n).2.2

/-- The invariant before position `n`: the scratch at what the first `n` points left. -/
def PhiS (c : Dev nD) : ℕ → sProp 𝕄
  | 0 => Pipeline.ΦA spec0 c
  | n + 1 => iprop(iprop(owns (c : Thread nD τ) scM0 fullShare ((st m c (n + 1)).1) ∗ owns (c : Thread nD τ) scM1 fullShare ((st m c (n + 1)).2.1) ∗ owns (c : Thread nD τ) scM2 fullShare ((st m c (n + 1)).2.2)) ∗ (∃ r, prngReg c r))

theorem PhiS_zero (c : Dev nD) (n : ℕ) (hz : n = 0) : PhiS m c n = Pipeline.ΦA spec0 c := by subst hz; rfl

theorem PhiS_succ (c : Dev nD) (n : ℕ) :
    PhiS m c (n + 1) = iprop(iprop(owns (c : Thread nD τ) scM0 fullShare ((st m c (n + 1)).1) ∗ owns (c : Thread nD τ) scM1 fullShare ((st m c (n + 1)).2.1) ∗ owns (c : Thread nD τ) scM2 fullShare ((st m c (n + 1)).2.2)) ∗ (∃ r, prngReg c r)) := rfl

theorem PhiS_pos (c : Dev nD) (n : ℕ) (hz : n ≠ 0) :
    PhiS m c n = iprop(iprop(owns (c : Thread nD τ) scM0 fullShare ((st m c n).1) ∗ owns (c : Thread nD τ) scM1 fullShare ((st m c n).2.1) ∗ owns (c : Thread nD τ) scM2 fullShare ((st m c n).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => lossOf m c (t.val + 1)
    | ⟨5, _⟩ => codesOf m c
    | ⟨6, _⟩ => scalesOf m c
  Φ t := PhiS m c t.val
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = lossOf m c (t.val + 1) := by dsimp only [dats]
theorem after_5 (c : Dev nD) (t : Fin cfg0.N) : (dats m 0 c).after 5 t = codesOf m c := by dsimp only [dats]
theorem after_6 (c : Dev nD) (t : Fin cfg0.N) : (dats m 0 c).after 6 t = scalesOf m c := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- After the first point, output 5's buffer holds what the first point stored. -/
theorem before_5 (c : Dev nD) (t : Fin cfg0.N) (hz : t.val ≠ 0) (d) : (dats m 0 c).before 5 t d = codesOf m c := by
  have hN : t.val < 4 := lt_of_lt_of_eq t.isLt (show cfg0.N = 4 from N_0)
  have hN0 : cfg0.N = 4 := N_0
  rw [Dat.before_idle_run (dats m 0 c) 5 nofetch_5 d (t.val - 1) t (by omega) (fun j hj hj' =>
    ⟨idle_5 j (fun h => by have := (cond1_iff j).mp h; omega), keep_5 j (fun h => by have := (cond2_iff j).mp h; omega)⟩)]
  have e : (⟨t.val - (t.val - 1), by omega⟩ : Fin cfg0.N) = ⟨1, by omega⟩ := Fin.ext (by show t.val - (t.val - 1) = 1; omega)
  rw [e, Dat.before_of_pos _ _ _ (by simp) (nofetch_5 _)]
  have e0 : (⟨(⟨1, by omega⟩ : Fin cfg0.N).val - 1, by simp; omega⟩ : Fin cfg0.N) = t0 := Fin.ext rfl
  rw [if_neg (by rw [keep_5 _ (fun h => by have := (cond2_iff _).mp h; simp at this)]; exact Bool.false_ne_true)]
  unfold Dat.left
  rw [live_5 _ ((cond1_iff _).mpr rfl)]
  rfl

/-- After the first point, output 6's buffer holds what the first point stored. -/
theorem before_6 (c : Dev nD) (t : Fin cfg0.N) (hz : t.val ≠ 0) (d) : (dats m 0 c).before 6 t d = scalesOf m c := by
  have hN : t.val < 4 := lt_of_lt_of_eq t.isLt (show cfg0.N = 4 from N_0)
  have hN0 : cfg0.N = 4 := N_0
  rw [Dat.before_idle_run (dats m 0 c) 6 nofetch_6 d (t.val - 1) t (by omega) (fun j hj hj' =>
    ⟨idle_6 j (fun h => by have := (cond1_iff j).mp h; omega), keep_6 j (fun h => by have := (cond2_iff j).mp h; omega)⟩)]
  have e : (⟨t.val - (t.val - 1), by omega⟩ : Fin cfg0.N) = ⟨1, by omega⟩ := Fin.ext (by show t.val - (t.val - 1) = 1; omega)
  rw [e, Dat.before_of_pos _ _ _ (by simp) (nofetch_6 _)]
  have e0 : (⟨(⟨1, by omega⟩ : Fin cfg0.N).val - 1, by simp; omega⟩ : Fin cfg0.N) = t0 := Fin.ext rfl
  rw [if_neg (by rw [keep_6 _ (fun h => by have := (cond2_iff _).mp h; simp at this)]; exact Bool.false_ne_true)]
  unfold Dat.left
  rw [live_6 _ ((cond1_iff _).mpr rfl)]
  rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_0 (c : Dev nD) (t : Fin cfg0.N) : (dats m 0 c).leavesExact 0 t = owns (c : Thread nD τ) (ms_0 t) fullShare (iblk m c 0 t) := by
  rw [show (dats m 0 c).leavesExact 0 t = owns (c : Thread nD τ) (ms_0 t) fullShare ((dats m 0 c).after 0 t) from by
    unfold Dat.leavesExact; rw [live_0 t], after_0]
theorem leaves_1 (c : Dev nD) (t : Fin cfg0.N) : (dats m 0 c).leavesExact 1 t = owns (c : Thread nD τ) (ms_1 t) fullShare (iblk m c 1 t) := by
  rw [show (dats m 0 c).leavesExact 1 t = owns (c : Thread nD τ) (ms_1 t) fullShare ((dats m 0 c).after 1 t) from by
    unfold Dat.leavesExact; rw [live_1 t], after_1]
theorem leaves_2 (c : Dev nD) (t : Fin cfg0.N) : (dats m 0 c).leavesExact 2 t = owns (c : Thread nD τ) (ms_2 t) fullShare (iblk m c 2 t) := by
  rw [show (dats m 0 c).leavesExact 2 t = owns (c : Thread nD τ) (ms_2 t) fullShare ((dats m 0 c).after 2 t) from by
    unfold Dat.leavesExact; rw [live_2 t], after_2]
theorem leaves_3 (c : Dev nD) (t : Fin cfg0.N) : (dats m 0 c).leavesExact 3 t = owns (c : Thread nD τ) (ms_3 t) fullShare (iblk m c 3 t) := by
  rw [show (dats m 0 c).leavesExact 3 t = owns (c : Thread nD τ) (ms_3 t) fullShare ((dats m 0 c).after 3 t) from by
    unfold Dat.leavesExact; rw [live_3 t], after_3]
theorem leaves_4_live (c : Dev nD) (t : Fin cfg0.N) (h : k0_cond2 (grid0.coords t) = 1#1) : (dats m 0 c).leavesExact 4 t = owns (c : Thread nD τ) (ms_4 t) fullShare (lossOf m c (t.val + 1)) := by
  rw [show (dats m 0 c).leavesExact 4 t = owns (c : Thread nD τ) (ms_4 t) fullShare ((dats m 0 c).after 4 t) from by
    unfold Dat.leavesExact; rw [live_4 t h], after_4]
theorem leaves_5_live (c : Dev nD) (t : Fin cfg0.N) (h : k0_cond1 (grid0.coords t) = 1#1) : (dats m 0 c).leavesExact 5 t = owns (c : Thread nD τ) (ms_5 t) fullShare (codesOf m c) := by
  rw [show (dats m 0 c).leavesExact 5 t = owns (c : Thread nD τ) (ms_5 t) fullShare ((dats m 0 c).after 5 t) from by
    unfold Dat.leavesExact; rw [live_5 t h], after_5]
theorem leaves_6_live (c : Dev nD) (t : Fin cfg0.N) (h : k0_cond1 (grid0.coords t) = 1#1) : (dats m 0 c).leavesExact 6 t = owns (c : Thread nD τ) (ms_6 t) fullShare (scalesOf m c) := by
  rw [show (dats m 0 c).leavesExact 6 t = owns (c : Thread nD τ) (ms_6 t) fullShare ((dats m 0 c).after 6 t) from by
    unfold Dat.leavesExact; rw [live_6 t h], after_6]
theorem leaves_5_back (c : Dev nD) (t : Fin cfg0.N) (h : ¬k0_cond1 (grid0.coords t) = 1#1) (h' : k0_cond2 (grid0.coords t) = 1#1) :
    (dats m 0 c).leavesExact 5 t = owns (c : Thread nD τ) (ms_5 t) fullShare (codesOf m c) := by
  rw [show (dats m 0 c).leavesExact 5 t = owns (c : Thread nD τ) (ms_5 t) fullShare ((dats m 0 c).after 5 t) from by
    unfold Dat.leavesExact; rw [idle_5 t h, back_5 t h'], after_5]
theorem leaves_6_back (c : Dev nD) (t : Fin cfg0.N) (h : ¬k0_cond1 (grid0.coords t) = 1#1) (h' : k0_cond2 (grid0.coords t) = 1#1) :
    (dats m 0 c).leavesExact 6 t = owns (c : Thread nD τ) (ms_6 t) fullShare (scalesOf m c) := by
  rw [show (dats m 0 c).leavesExact 6 t = owns (c : Thread nD τ) (ms_6 t) fullShare ((dats m 0 c).after 6 t) from by
    unfold Dat.leavesExact; rw [idle_6 t h, back_6 t h'], after_6]

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) from rfl, PhiS_succ, PhiS_castSucc]
  rw [leaves_0, leaves_1, leaves_2, leaves_3, st_succ m c t]
  dsimp only
  have hN : t.val < 4 := lt_of_lt_of_eq t.isLt (show cfg0.N = 4 from N_0)
  by_cases h0 : t.val % 4 = 0
  · have hc1 := (cond1_iff t).mpr h0
    have hc2 : ¬k0_cond2 (grid0.coords t) = 1#1 := fun h => by have := (cond2_iff t).mp h; omega
    have hz : t = t0 := Fin.ext (by show t.val = 0; omega)
    subst hz
    rw [PhiS_zero m c t0.val rfl, PhiA0_eq, leaves_5_live m c _ hc1, leaves_6_live m c _ hc1, Dat.leavesExact_idle (dats m 0 c) 4 _ (idle_4 _ hc2) (keep_4 _ hc2)]
    rw [show t0.val = 0 from rfl, st_zero]
    dsimp only
    iintro ⟨⟨⟨⟨%e0, HS0⟩, ⟨%e1, HS1⟩, ⟨%e2, HS2⟩⟩, Hg⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords t0) _ _ _ _ _ _ _ _ _ _ _ _ _ _ _ _ _ _ _ _ (iblk m c 0 t0) (iblk m c 1 t0) (iblk m c 2 t0) (iblk m c 3 t0) _ _ _ _ _ _ hc1 hc2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexists d4; iexact H4
    isplitl [H5]; · iexact H5
    iexact H6
  · have hz : t.val ≠ 0 := fun h => by omega
    have hc1 : ¬k0_cond1 (grid0.coords t) = 1#1 := fun h => by have := (cond1_iff t).mp h; omega
    rw [PhiS_pos m c _ hz]
    by_cases h3 : t.val % 4 = 3
    · have hc2 := (cond2_iff t).mpr h3
      simp only [before_5 m c t hz, before_6 m c t hz]
      rw [leaves_4_live m c t hc2, leaves_5_back m c t hc1 hc2, leaves_6_back m c t hc1 hc2, lossOf, st_succ m c t]
      dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (run_last c (grid0.coords t) _ _ _ _ _ _ _ _ _ _ _ _ _ _ _ _ _ _ _ _ (iblk m c 0 t) (iblk m c 1 t) (iblk m c 2 t) (iblk m c 3 t) _ (codesOf m c) (scalesOf m c) _ _ _ hc1 hc2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc2 : ¬k0_cond2 (grid0.coords t) = 1#1 := fun h => h3 ((cond2_iff t).mp h)
      rw [Dat.leavesExact_idle (dats m 0 c) 4 _ (idle_4 _ hc2) (keep_4 _ hc2), Dat.leavesExact_idle (dats m 0 c) 5 _ (idle_5 _ hc1) (keep_5 _ hc2), Dat.leavesExact_idle (dats m 0 c) 6 _ (idle_6 _ hc1) (keep_6 _ hc2)]
      simp only [before_5 m c t hz, before_6 m c t hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (run_mid c (grid0.coords t) _ _ _ _ _ _ _ _ _ _ _ _ _ _ _ _ _ _ _ _ (iblk m c 0 t) (iblk m c 1 t) (iblk m c 2 t) (iblk m c 3 t) _ (codesOf m c) (scalesOf m c) _ _ _ hc1 hc2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexists d4; iexact H4
      isplitl [H5]; · iexists d5; iexact H5
      iexists d6; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 4 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the launch terminates, the arguments end unchanged, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Hand

end
-- ==== Proof.lean ====
module

public import proofs.«01_k».proof.Defs
public import proofs.«01_k».proof.Proof.Equal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.KernelIdealFrame
public import Idealize.ShloMosaic.Adequacy
public import Idealize.ShloMosaic.Init

@[expose] public section

noncomputable section

namespace Cert.Proof

open Idealize.ShloMosaic Idealize.ShloMosaic.ValueIdx Idealize.SL.Sem

theorem pre_facts : Cert.Pre_finite_and_in_vocabulary.Facts := ⟨by decide, by decide, by decide⟩

theorem mask_true {p : Prop} [Decidable p] (h : BitVec.ofBool (decide p) = 1#1) : p := by
  by_cases hp : p
  · exact hp
  · rw [decide_eq_false hp] at h; exact absurd h (by decide)

theorem andi_true {a b : BitVec 1} (h : IntOp.andi a b = 1#1) : a = 1#1 ∧ b = 1#1 := by
  revert a b; decide

/-- What the precondition says of the arguments. -/
theorem inRange (m : (ℓ : Loc Cert.KernelIdeal.nD Cert.KernelIdeal.τ Cert.KernelIdeal.sig) → Buf (Elt Ideal) ℓ)
    (h : Cert.Pre_KernelIdeal_finite_and_in_vocabulary (hPre_finite_and_in_vocabulary := pre_facts) m) (c : Dev Cert.KernelIdeal.nD) :
    Cert.Equal.InRange (Cert.Equal.k0 m c) (Cert.Equal.k3 m c) := by
  refine ⟨fun b s k => ?_, fun b s => ?_⟩
  · exact mask_true (congrFun (h c).1 (ix3 b s k))
  · exact andi_true (congrFun (h c).2 (ix2 b s))

theorem algebraic : Cert.algebraic_KernelIdeal_ReferenceIdeal_pre_finite_and_in_vocabulary (hKernelIdeal := Cert.KernelIdeal.Gen.facts)
    (hReferenceIdeal := Cert.ReferenceIdeal.Gen.facts) (hPre_finite_and_in_vocabulary := pre_facts) := by
  intro m g m' g' hp ha
  refine ⟨_, _, _, Cert.KernelIdeal.Hand.run m g, θ_run_mono (Cert.ReferenceIdeal.Hand.run m' g') fun r h c => ?_⟩
  obtain ⟨h0, h1, h2, hr⟩ := h c
  obtain ⟨e0, e1, e2, e3⟩ := ha c
  have hx := inRange m hp c
  exact ⟨h0.trans (Cert.Equal.loss_eq m m' c hx e0 e1 e2 e3).symm, h1.trans (Cert.Equal.codes_eq m m' c hx e0).symm,
    h2.trans (Cert.Equal.scales_eq m m' c hx e0).symm, hr⟩

theorem claim : Cert.Claim := ⟨Cert.Kernel.Gen.facts, Cert.KernelIdeal.Gen.facts, Cert.ReferenceIdeal.Gen.facts, pre_facts,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ, trivial, algebraic⟩

end Cert.Proof

end
